-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary_args [hPre_ordinary_args : Cert.Pre_ordinary_args.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary_args [hPre_ordinary_args : Cert.Pre_ordinary_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ordinary_args [hKernelIdeal : Cert.KernelIdeal.Facts] [hPre_ordinary_args : Cert.Pre_ordinary_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ordinary_args [hReferenceIdeal : Cert.ReferenceIdeal.Facts] [hPre_ordinary_args : Cert.Pre_ordinary_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ordinary_args [hKernelIdeal : Cert.KernelIdeal.Facts] [hReferenceIdeal : Cert.ReferenceIdeal.Facts] [hPre_ordinary_args : Cert.Pre_ordinary_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ordinary_args : Cert.Pre_ordinary_args.Facts),
    quiescent_Kernel (hKernel := hKernel)
    ∧ quiescent_KernelIdeal (hKernelIdeal := hKernelIdeal)
    ∧ quiescent_KernelIdeal_pre_ordinary_args (hKernelIdeal := hKernelIdeal) (hPre_ordinary_args := hPre_ordinary_args)
    ∧ quiescent_ReferenceIdeal (hReferenceIdeal := hReferenceIdeal)
    ∧ quiescent_ReferenceIdeal_pre_ordinary_args (hReferenceIdeal := hReferenceIdeal) (hPre_ordinary_args := hPre_ordinary_args)
    ∧ preserves_Kernel_KernelIdeal
    ∧ algebraic_KernelIdeal_ReferenceIdeal_pre_ordinary_args (hKernelIdeal := hKernelIdeal) (hReferenceIdeal := hReferenceIdeal) (hPre_ordinary_args := hPre_ordinary_args)
-- ==== Pre_ordinary_args.lean ====
abbrev S128x100000 : Shape := ⟨2, ![128, 100000]⟩
abbrev S128x1 : Shape := ⟨2, ![128, 1]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S128x100000 .f32) (main_arg1 : IVec S128x1 32) : IVec S_ 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_c : IVec S_ 1 := constantI S_ 1 1#1
  let main_v2 : IVec S_ 1 := (fun x v => Host.reduce IntOp.andi x v reducesTo_S128x100000_S_d0_1 h_S_) main_v1 main_c
  let main_c_0 : IVec S_ 32 := constantI S_ 32 0#32
  let main_v3 : IVec S128x1 32 := broadcastInDim S128x1 ![] bcast_S_S128x1 main_c_0
  let main_v4 : IVec S128x1 1 := cmpi .sge main_arg1 main_v3
  let main_c_1 : IVec S_ 1 := constantI S_ 1 1#1
  let main_v5 : IVec S_ 1 := (fun x v => Host.reduce IntOp.andi x v reducesTo_S128x1_S_d0_1 h_S_) main_v4 main_c_1
  let main_v6 : IVec S_ 1 := andi main_v2 main_v5
  let main_c_2 : IVec S_ 32 := constantI S_ 32 100000#32
  let main_v7 : IVec S128x1 32 := broadcastInDim S128x1 ![] bcast_S_S128x1 main_c_2
  let main_v8 : IVec S128x1 1 := cmpi .slt main_arg1 main_v7
  let main_c_3 : IVec S_ 1 := constantI S_ 1 1#1
  let main_v9 : IVec S_ 1 := (fun x v => Host.reduce IntOp.andi x v reducesTo_S128x1_S_d0_1 h_S_) main_v8 main_c_3
  let main_v10 : IVec S_ 1 := andi main_v6 main_v9
  main_v10
-- ==== Kernel.lean ====
abbrev S128x100000 : Shape := ⟨2, ![128, 100000]⟩
abbrev S128x1 : Shape := ⟨2, ![128, 1]⟩
abbrev S128x2048 : Shape := ⟨2, ![128, 2048]⟩
abbrev S128 : Shape := ⟨1, ![128]⟩

abbrev nBuf : Space → Nat
  | .hbm => 5
  | .vmem => 12
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128x1, .f32⟩
  | .hbm, ⟨3, _⟩ => ⟨S128x1, .i32⟩
  | .hbm, ⟨4, _⟩ => ⟨S128x1, .i32⟩
  | .local _ .vmem, ⟨0, _⟩ => ⟨S128x2048, .f32⟩
  | .local _ .vmem, ⟨1, _⟩ => ⟨S128x2048, .f32⟩
  | .local _ .vmem, ⟨2, _⟩ => ⟨S128x1, .i32⟩
  | .local _ .vmem, ⟨3, _⟩ => ⟨S128x1, .f32⟩
  | .local _ .vmem, ⟨4, _⟩ => ⟨S128x1, .i32⟩
  | .local _ .vmem, ⟨5, _⟩ => ⟨S128x1, .i32⟩
  | .local _ .vmem, ⟨6, _⟩ => ⟨S128x1, .f32⟩
  | .local _ .vmem, ⟨7, _⟩ => ⟨S128x1, .f32⟩
  | .local _ .vmem, ⟨8, _⟩ => ⟨S128x1, .i32⟩
  | .local _ .vmem, ⟨9, _⟩ => ⟨S128x1, .f32⟩
  | .local _ .vmem, ⟨10, _⟩ => ⟨S128x1, .i32⟩
  | .local _ .vmem, ⟨11, _⟩ => ⟨S128x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32 : BitVec 32 := 48#32
  let v234 : BitVec 1 := Scalar.cmpi .eq arg0 c48_i32
  let v235 : BitVec 32 := Scalar.extui v234
  let c0_i32_56 : BitVec 32 := 0#32
  let v236 : BitVec 1 := Scalar.cmpi .ne v235 c0_i32_56
  v236

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x100000 : Shape := ⟨2, ![128, 100000]⟩
abbrev S128x1 : Shape := ⟨2, ![128, 1]⟩
abbrev S_ : Shape := ⟨0, ![]⟩
abbrev S128 : Shape := ⟨1, ![128]⟩
abbrev S128x1x1 : Shape := ⟨3, ![128, 1, 1]⟩
abbrev S1 : Shape := ⟨1, ![1]⟩
abbrev S1x1x1 : Shape := ⟨3, ![1, 1, 1]⟩
abbrev S2 : Shape := ⟨1, ![2]⟩

abbrev nBuf : Space → Nat
  | .hbm => 343
  | .vmem => 0
  | .smem => 0
  | _ => 0

abbrev hbmTy0_0 (i : Nat) : BufTy := match i % 128 with
  | 0 => ⟨S128x100000, .f32⟩
  | 1 => ⟨S128x1, .i32⟩
  | 2 => ⟨S_, .f32⟩
  | 3 => ⟨S128, .f32⟩
  | 4 => ⟨S_, .f32⟩
  | 5 => ⟨S128, .f32⟩
  | 6 => ⟨S128, .f32⟩
  | 7 => ⟨S128x1, .f32⟩
  | 8 => ⟨S128x100000, .f32⟩
  | 9 => ⟨S128x100000, .f32⟩
  | 10 => ⟨S128x100000, .f32⟩
  | 11 => ⟨S_, .f32⟩
  | 12 => ⟨S128, .f32⟩
  | 13 => ⟨S128x1, .f32⟩
  | 14 => ⟨S128x1, .f32⟩
  | 15 => ⟨S128x100000, .f32⟩
  | 16 => ⟨S128x100000, .f32⟩
  | 17 => ⟨S_, .i32⟩
  | 18 => ⟨S128x1, .i32⟩
  | 19 => ⟨S128x1, .i1⟩
  | 20 => ⟨S_, .i32⟩
  | 21 => ⟨S128x1, .i32⟩
  | 22 => ⟨S128x1, .i32⟩
  | 23 => ⟨S128x1, .i32⟩
  | 24 => ⟨S128x1x1, .i32⟩
  | 25 => ⟨S1, .i32⟩
  | 26 => ⟨S_, .i32⟩
  | 27 => ⟨S128x1x1, .i32⟩
  | 28 => ⟨S128x1x1, .i1⟩
  | 29 => ⟨S1x1x1, .i32⟩
  | 30 => ⟨S128x1x1, .i32⟩
  | 31 => ⟨S128x1x1, .i1⟩
  | 32 => ⟨S128x1x1, .i1⟩
  | 33 => ⟨S_, .i1⟩
  | 34 => ⟨S128x1, .i1⟩
  | 35 => ⟨S128x1, .f32⟩
  | 36 => ⟨S_, .f32⟩
  | 37 => ⟨S128x1, .f32⟩
  | 38 => ⟨S128x1, .f32⟩
  | 39 => ⟨S_, .f32⟩
  | 40 => ⟨S128, .f32⟩
  | 41 => ⟨S128x1, .f32⟩
  | 42 => ⟨S_, .f32⟩
  | 43 => ⟨S128, .f32⟩
  | 44 => ⟨S_, .f32⟩
  | 45 => ⟨S128, .f32⟩
  | 46 => ⟨S128, .f32⟩
  | 47 => ⟨S128x1, .f32⟩
  | 48 => ⟨S128x100000, .f32⟩
  | 49 => ⟨S128x100000, .f32⟩
  | 50 => ⟨S128x100000, .f32⟩
  | 51 => ⟨S_, .f32⟩
  | 52 => ⟨S128, .f32⟩
  | 53 => ⟨S128x1, .f32⟩
  | 54 => ⟨S128x100000, .f32⟩
  | 55 => ⟨S128x100000, .f32⟩
  | 56 => ⟨S128x100000, .i32⟩
  | 57 => ⟨S_, .f32⟩
  | 58 => ⟨S_, .i32⟩
  | 59 => ⟨S128, .f32⟩
  | 60 => ⟨S128, .i32⟩
  | 61 => ⟨S128x1, .i32⟩
  | 62 => ⟨S_, .i32⟩
  | 63 => ⟨S_, .i32⟩
  | 64 => ⟨S_, .i32⟩
  | 65 => ⟨S_, .i32⟩
  | 66 => ⟨S1, .i32⟩
  | 67 => ⟨S_, .i32⟩
  | 68 => ⟨S_, .i32⟩
  | 69 => ⟨S_, .i32⟩
  | 70 => ⟨S1, .i32⟩
  | 71 => ⟨S2, .i32⟩
  | 72 => ⟨S1, .i32⟩
  | 73 => ⟨S_, .i32⟩
  | 74 => ⟨S1, .i32⟩
  | 75 => ⟨S_, .i32⟩
  | 76 => ⟨S128x100000, .i64⟩
  | 77 => ⟨S128x100000, .i64⟩
  | 78 => ⟨S_, .i64⟩
  | 79 => ⟨S128x100000, .i64⟩
  | 80 => ⟨S128x100000, .i64⟩
  | 81 => ⟨S_, .i64⟩
  | 82 => ⟨S128x100000, .i64⟩
  | 83 => ⟨S128x100000, .i64⟩
  | 84 => ⟨S128x100000, .i64⟩
  | 85 => ⟨S_, .i64⟩
  | 86 => ⟨S128x100000, .i64⟩
  | 87 => ⟨S128x100000, .i64⟩
  | 88 => ⟨S128x100000, .i32⟩
  | 89 => ⟨S128x100000, .i32⟩
  | 90 => ⟨S_, .i32⟩
  | 91 => ⟨S_, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .f32⟩
  | 64 => ⟨S_, .f32⟩
  | 65 => ⟨S128x100000, .f32⟩
  | 66 => ⟨S128x100000, .f32⟩
  | 67 => ⟨S_, .f32⟩
  | 68 => ⟨S128x100000, .f32⟩
  | 69 => ⟨S128x100000, .f32⟩
  | 70 => ⟨S_, .f32⟩
  | 71 => ⟨S128x100000, .f32⟩
  | 72 => ⟨S128x100000, .f32⟩
  | 73 => ⟨S_, .f32⟩
  | 74 => ⟨S128x100000, .f32⟩
  | 75 => ⟨S128x100000, .f32⟩
  | 76 => ⟨S128x100000, .f32⟩
  | 77 => ⟨S128x100000, .f32⟩
  | 78 => ⟨S128x100000, .f32⟩
  | 79 => ⟨S128x100000, .f32⟩
  | 80 => ⟨S128x100000, .f32⟩
  | 81 => ⟨S128x100000, .i32⟩
  | 82 => ⟨S_, .f32⟩
  | 83 => ⟨S_, .i32⟩
  | 84 => ⟨S128, .f32⟩
  | 85 => ⟨S128, .i32⟩
  | 86 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_cst_1 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_2 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_call2_v0 : Ref sig .tc := ⟨.hbm, 56, rfl⟩
abbrev main_call2_cst : Ref sig .tc := ⟨.hbm, 57, rfl⟩
abbrev main_call2_c : Ref sig .tc := ⟨.hbm, 58, rfl⟩
abbrev main_call2_v1_0 : Ref sig .tc := ⟨.hbm, 59, rfl⟩
abbrev main_v15 : Ref sig .tc := ⟨.hbm, 60, rfl⟩
abbrev main_v16 : Ref sig .tc := ⟨.hbm, 61, rfl⟩
abbrev main_c : Ref sig .tc := ⟨.hbm, 62, rfl⟩
abbrev main_c_3 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_c_4 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_5 : Ref sig .tc := ⟨.hbm, 78, rfl⟩
abbrev main_v30 : Ref sig .tc := ⟨.hbm, 79, rfl⟩
abbrev main_v31 : Ref sig .tc := ⟨.hbm, 80, rfl⟩
abbrev main_c_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_7 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_c_0 : Ref sig .tc := ⟨.hbm, 98, rfl⟩
abbrev main_call3_v7 : Ref sig .tc := ⟨.hbm, 99, rfl⟩
abbrev main_call3_v8 : Ref sig .tc := ⟨.hbm, 100, rfl⟩
abbrev main_call3_c_1 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_c_2 : Ref sig .tc := ⟨.hbm, 107, rfl⟩
abbrev main_call3_v14 : Ref sig .tc := ⟨.hbm, 108, rfl⟩
abbrev main_call3_v15 : Ref sig .tc := ⟨.hbm, 109, rfl⟩
abbrev main_call3_c_3 : Ref sig .tc := ⟨.hbm, 110, rfl⟩
abbrev main_call3_v16 : Ref sig .tc := ⟨.hbm, 111, rfl⟩
abbrev main_call3_v17 : Ref sig .tc := ⟨.hbm, 112, rfl⟩
abbrev main_call3_v18 : Ref sig .tc := ⟨.hbm, 113, rfl⟩
abbrev main_call3_v19 : Ref sig .tc := ⟨.hbm, 114, rfl⟩
abbrev main_call3_v20 : Ref sig .tc := ⟨.hbm, 115, rfl⟩
abbrev main_call3_c_4 : Ref sig .tc := ⟨.hbm, 116, rfl⟩
abbrev main_call3_v21 : Ref sig .tc := ⟨.hbm, 117, rfl⟩
abbrev main_call3_v22 : Ref sig .tc := ⟨.hbm, 118, rfl⟩
abbrev main_call3_c_5 : Ref sig .tc := ⟨.hbm, 119, rfl⟩
abbrev main_call3_v23 : Ref sig .tc := ⟨.hbm, 120, rfl⟩
abbrev main_call3_v24 : Ref sig .tc := ⟨.hbm, 121, rfl⟩
abbrev main_call3_v25 : Ref sig .tc := ⟨.hbm, 122, rfl⟩
abbrev main_call3_v26 : Ref sig .tc := ⟨.hbm, 123, rfl⟩
abbrev main_call3_v27 : Ref sig .tc := ⟨.hbm, 124, rfl⟩
abbrev main_call3_c_6 : Ref sig .tc := ⟨.hbm, 125, rfl⟩
abbrev main_call3_v28 : Ref sig .tc := ⟨.hbm, 126, rfl⟩
abbrev main_call3_v29 : Ref sig .tc := ⟨.hbm, 127, rfl⟩
abbrev main_call3_c_7 : Ref sig .tc := ⟨.hbm, 128, rfl⟩
abbrev main_call3_v30 : Ref sig .tc := ⟨.hbm, 129, rfl⟩
abbrev main_call3_v31 : Ref sig .tc := ⟨.hbm, 130, rfl⟩
abbrev main_call3_v32 : Ref sig .tc := ⟨.hbm, 131, rfl⟩
abbrev main_call3_v33 : Ref sig .tc := ⟨.hbm, 132, rfl⟩
abbrev main_call3_v34 : Ref sig .tc := ⟨.hbm, 133, rfl⟩
abbrev main_call3_v35 : Ref sig .tc := ⟨.hbm, 134, rfl⟩
abbrev main_call3_v36 : Ref sig .tc := ⟨.hbm, 135, rfl⟩
abbrev main_call3_v37 : Ref sig .tc := ⟨.hbm, 136, rfl⟩
abbrev main_call3_c_8 : Ref sig .tc := ⟨.hbm, 137, rfl⟩
abbrev main_call3_v38 : Ref sig .tc := ⟨.hbm, 138, rfl⟩
abbrev main_call3_v39 : Ref sig .tc := ⟨.hbm, 139, rfl⟩
abbrev main_call3_v40 : Ref sig .tc := ⟨.hbm, 140, rfl⟩
abbrev main_call3_c_9 : Ref sig .tc := ⟨.hbm, 141, rfl⟩
abbrev main_call3_v41 : Ref sig .tc := ⟨.hbm, 142, rfl⟩
abbrev main_call3_v42 : Ref sig .tc := ⟨.hbm, 143, rfl⟩
abbrev main_call3_c_10 : Ref sig .tc := ⟨.hbm, 144, rfl⟩
abbrev main_call3_v43 : Ref sig .tc := ⟨.hbm, 145, rfl⟩
abbrev main_call3_v44 : Ref sig .tc := ⟨.hbm, 146, rfl⟩
abbrev main_call3_v45 : Ref sig .tc := ⟨.hbm, 147, rfl⟩
abbrev main_call3_v46 : Ref sig .tc := ⟨.hbm, 148, rfl⟩
abbrev main_call3_v47 : Ref sig .tc := ⟨.hbm, 149, rfl⟩
abbrev main_call3_c_11 : Ref sig .tc := ⟨.hbm, 150, rfl⟩
abbrev main_call3_v48 : Ref sig .tc := ⟨.hbm, 151, rfl⟩
abbrev main_call3_v49 : Ref sig .tc := ⟨.hbm, 152, rfl⟩
abbrev main_call3_c_12 : Ref sig .tc := ⟨.hbm, 153, rfl⟩
abbrev main_call3_v50 : Ref sig .tc := ⟨.hbm, 154, rfl⟩
abbrev main_call3_v51 : Ref sig .tc := ⟨.hbm, 155, rfl⟩
abbrev main_call3_v52 : Ref sig .tc := ⟨.hbm, 156, rfl⟩
abbrev main_call3_v53 : Ref sig .tc := ⟨.hbm, 157, rfl⟩
abbrev main_call3_v54 : Ref sig .tc := ⟨.hbm, 158, rfl⟩
abbrev main_call3_c_13 : Ref sig .tc := ⟨.hbm, 159, rfl⟩
abbrev main_call3_v55 : Ref sig .tc := ⟨.hbm, 160, rfl⟩
abbrev main_call3_v56 : Ref sig .tc := ⟨.hbm, 161, rfl⟩
abbrev main_call3_c_14 : Ref sig .tc := ⟨.hbm, 162, rfl⟩
abbrev main_call3_v57 : Ref sig .tc := ⟨.hbm, 163, rfl⟩
abbrev main_call3_v58 : Ref sig .tc := ⟨.hbm, 164, rfl⟩
abbrev main_call3_v59 : Ref sig .tc := ⟨.hbm, 165, rfl⟩
abbrev main_call3_v60 : Ref sig .tc := ⟨.hbm, 166, rfl⟩
abbrev main_call3_v61 : Ref sig .tc := ⟨.hbm, 167, rfl⟩
abbrev main_call3_c_15 : Ref sig .tc := ⟨.hbm, 168, rfl⟩
abbrev main_call3_v62 : Ref sig .tc := ⟨.hbm, 169, rfl⟩
abbrev main_call3_v63 : Ref sig .tc := ⟨.hbm, 170, rfl⟩
abbrev main_call3_c_16 : Ref sig .tc := ⟨.hbm, 171, rfl⟩
abbrev main_call3_v64 : Ref sig .tc := ⟨.hbm, 172, rfl⟩
abbrev main_call3_v65 : Ref sig .tc := ⟨.hbm, 173, rfl⟩
abbrev main_call3_v66 : Ref sig .tc := ⟨.hbm, 174, rfl⟩
abbrev main_call3_v67 : Ref sig .tc := ⟨.hbm, 175, rfl⟩
abbrev main_call3_v68 : Ref sig .tc := ⟨.hbm, 176, rfl⟩
abbrev main_call3_v69 : Ref sig .tc := ⟨.hbm, 177, rfl⟩
abbrev main_call3_v70 : Ref sig .tc := ⟨.hbm, 178, rfl⟩
abbrev main_call3_v71 : Ref sig .tc := ⟨.hbm, 179, rfl⟩
abbrev main_call3_c_17 : Ref sig .tc := ⟨.hbm, 180, rfl⟩
abbrev main_call3_v72 : Ref sig .tc := ⟨.hbm, 181, rfl⟩
abbrev main_call3_v73 : Ref sig .tc := ⟨.hbm, 182, rfl⟩
abbrev main_call3_v74 : Ref sig .tc := ⟨.hbm, 183, rfl⟩
abbrev main_call3_c_18 : Ref sig .tc := ⟨.hbm, 184, rfl⟩
abbrev main_call3_v75 : Ref sig .tc := ⟨.hbm, 185, rfl⟩
abbrev main_call3_v76 : Ref sig .tc := ⟨.hbm, 186, rfl⟩
abbrev main_call3_c_19 : Ref sig .tc := ⟨.hbm, 187, rfl⟩
abbrev main_call3_v77 : Ref sig .tc := ⟨.hbm, 188, rfl⟩
abbrev main_call3_v78 : Ref sig .tc := ⟨.hbm, 189, rfl⟩
abbrev main_call3_v79 : Ref sig .tc := ⟨.hbm, 190, rfl⟩
abbrev main_call3_v80 : Ref sig .tc := ⟨.hbm, 191, rfl⟩
abbrev main_call3_v81 : Ref sig .tc := ⟨.hbm, 192, rfl⟩
abbrev main_call3_c_20 : Ref sig .tc := ⟨.hbm, 193, rfl⟩
abbrev main_call3_v82 : Ref sig .tc := ⟨.hbm, 194, rfl⟩
abbrev main_call3_v83 : Ref sig .tc := ⟨.hbm, 195, rfl⟩
abbrev main_call3_c_21 : Ref sig .tc := ⟨.hbm, 196, rfl⟩
abbrev main_call3_v84 : Ref sig .tc := ⟨.hbm, 197, rfl⟩
abbrev main_call3_v85 : Ref sig .tc := ⟨.hbm, 198, rfl⟩
abbrev main_call3_v86 : Ref sig .tc := ⟨.hbm, 199, rfl⟩
abbrev main_call3_v87 : Ref sig .tc := ⟨.hbm, 200, rfl⟩
abbrev main_call3_v88 : Ref sig .tc := ⟨.hbm, 201, rfl⟩
abbrev main_call3_c_22 : Ref sig .tc := ⟨.hbm, 202, rfl⟩
abbrev main_call3_v89 : Ref sig .tc := ⟨.hbm, 203, rfl⟩
abbrev main_call3_v90 : Ref sig .tc := ⟨.hbm, 204, rfl⟩
abbrev main_call3_c_23 : Ref sig .tc := ⟨.hbm, 205, rfl⟩
abbrev main_call3_v91 : Ref sig .tc := ⟨.hbm, 206, rfl⟩
abbrev main_call3_v92 : Ref sig .tc := ⟨.hbm, 207, rfl⟩
abbrev main_call3_v93 : Ref sig .tc := ⟨.hbm, 208, rfl⟩
abbrev main_call3_v94 : Ref sig .tc := ⟨.hbm, 209, rfl⟩
abbrev main_call3_v95 : Ref sig .tc := ⟨.hbm, 210, rfl⟩
abbrev main_call3_c_24 : Ref sig .tc := ⟨.hbm, 211, rfl⟩
abbrev main_call3_v96 : Ref sig .tc := ⟨.hbm, 212, rfl⟩
abbrev main_call3_v97 : Ref sig .tc := ⟨.hbm, 213, rfl⟩
abbrev main_call3_c_25 : Ref sig .tc := ⟨.hbm, 214, rfl⟩
abbrev main_call3_v98 : Ref sig .tc := ⟨.hbm, 215, rfl⟩
abbrev main_call3_v99 : Ref sig .tc := ⟨.hbm, 216, rfl⟩
abbrev main_call3_v100 : Ref sig .tc := ⟨.hbm, 217, rfl⟩
abbrev main_call3_v101 : Ref sig .tc := ⟨.hbm, 218, rfl⟩
abbrev main_call3_v102 : Ref sig .tc := ⟨.hbm, 219, rfl⟩
abbrev main_call3_v103 : Ref sig .tc := ⟨.hbm, 220, rfl⟩
abbrev main_call3_v104 : Ref sig .tc := ⟨.hbm, 221, rfl⟩
abbrev main_call3_v105 : Ref sig .tc := ⟨.hbm, 222, rfl⟩
abbrev main_call3_c_26 : Ref sig .tc := ⟨.hbm, 223, rfl⟩
abbrev main_call3_v106 : Ref sig .tc := ⟨.hbm, 224, rfl⟩
abbrev main_call3_v107 : Ref sig .tc := ⟨.hbm, 225, rfl⟩
abbrev main_call3_v108 : Ref sig .tc := ⟨.hbm, 226, rfl⟩
abbrev main_call3_c_27 : Ref sig .tc := ⟨.hbm, 227, rfl⟩
abbrev main_call3_v109 : Ref sig .tc := ⟨.hbm, 228, rfl⟩
abbrev main_call3_v110 : Ref sig .tc := ⟨.hbm, 229, rfl⟩
abbrev main_call3_c_28 : Ref sig .tc := ⟨.hbm, 230, rfl⟩
abbrev main_call3_v111 : Ref sig .tc := ⟨.hbm, 231, rfl⟩
abbrev main_call3_v112 : Ref sig .tc := ⟨.hbm, 232, rfl⟩
abbrev main_call3_v113 : Ref sig .tc := ⟨.hbm, 233, rfl⟩
abbrev main_call3_v114 : Ref sig .tc := ⟨.hbm, 234, rfl⟩
abbrev main_call3_v115 : Ref sig .tc := ⟨.hbm, 235, rfl⟩
abbrev main_call3_c_29 : Ref sig .tc := ⟨.hbm, 236, rfl⟩
abbrev main_call3_v116 : Ref sig .tc := ⟨.hbm, 237, rfl⟩
abbrev main_call3_v117 : Ref sig .tc := ⟨.hbm, 238, rfl⟩
abbrev main_call3_c_30 : Ref sig .tc := ⟨.hbm, 239, rfl⟩
abbrev main_call3_v118 : Ref sig .tc := ⟨.hbm, 240, rfl⟩
abbrev main_call3_v119 : Ref sig .tc := ⟨.hbm, 241, rfl⟩
abbrev main_call3_v120 : Ref sig .tc := ⟨.hbm, 242, rfl⟩
abbrev main_call3_v121 : Ref sig .tc := ⟨.hbm, 243, rfl⟩
abbrev main_call3_v122 : Ref sig .tc := ⟨.hbm, 244, rfl⟩
abbrev main_call3_c_31 : Ref sig .tc := ⟨.hbm, 245, rfl⟩
abbrev main_call3_v123 : Ref sig .tc := ⟨.hbm, 246, rfl⟩
abbrev main_call3_v124 : Ref sig .tc := ⟨.hbm, 247, rfl⟩
abbrev main_call3_c_32 : Ref sig .tc := ⟨.hbm, 248, rfl⟩
abbrev main_call3_v125 : Ref sig .tc := ⟨.hbm, 249, rfl⟩
abbrev main_call3_v126 : Ref sig .tc := ⟨.hbm, 250, rfl⟩
abbrev main_call3_v127 : Ref sig .tc := ⟨.hbm, 251, rfl⟩
abbrev main_call3_v128 : Ref sig .tc := ⟨.hbm, 252, rfl⟩
abbrev main_call3_v129 : Ref sig .tc := ⟨.hbm, 253, rfl⟩
abbrev main_call3_c_33 : Ref sig .tc := ⟨.hbm, 254, rfl⟩
abbrev main_call3_v130 : Ref sig .tc := ⟨.hbm, 255, rfl⟩
abbrev main_call3_v131 : Ref sig .tc := ⟨.hbm, 256, rfl⟩
abbrev main_call3_c_34 : Ref sig .tc := ⟨.hbm, 257, rfl⟩
abbrev main_call3_v132 : Ref sig .tc := ⟨.hbm, 258, rfl⟩
abbrev main_call3_v133 : Ref sig .tc := ⟨.hbm, 259, rfl⟩
abbrev main_call3_v134 : Ref sig .tc := ⟨.hbm, 260, rfl⟩
abbrev main_call3_v135 : Ref sig .tc := ⟨.hbm, 261, rfl⟩
abbrev main_call3_v136 : Ref sig .tc := ⟨.hbm, 262, rfl⟩
abbrev main_call3_v137 : Ref sig .tc := ⟨.hbm, 263, rfl⟩
abbrev main_call3_v138 : Ref sig .tc := ⟨.hbm, 264, rfl⟩
abbrev main_call3_v139 : Ref sig .tc := ⟨.hbm, 265, rfl⟩
abbrev main_call3_c_35 : Ref sig .tc := ⟨.hbm, 266, rfl⟩
abbrev main_call3_v140 : Ref sig .tc := ⟨.hbm, 267, rfl⟩
abbrev main_call3_v141 : Ref sig .tc := ⟨.hbm, 268, rfl⟩
abbrev main_call3_v142 : Ref sig .tc := ⟨.hbm, 269, rfl⟩
abbrev main_call3_c_36 : Ref sig .tc := ⟨.hbm, 270, rfl⟩
abbrev main_call3_v143 : Ref sig .tc := ⟨.hbm, 271, rfl⟩
abbrev main_call3_v144 : Ref sig .tc := ⟨.hbm, 272, rfl⟩
abbrev main_call3_c_37 : Ref sig .tc := ⟨.hbm, 273, rfl⟩
abbrev main_call3_v145 : Ref sig .tc := ⟨.hbm, 274, rfl⟩
abbrev main_call3_v146 : Ref sig .tc := ⟨.hbm, 275, rfl⟩
abbrev main_call3_v147 : Ref sig .tc := ⟨.hbm, 276, rfl⟩
abbrev main_call3_v148 : Ref sig .tc := ⟨.hbm, 277, rfl⟩
abbrev main_call3_v149 : Ref sig .tc := ⟨.hbm, 278, rfl⟩
abbrev main_call3_c_38 : Ref sig .tc := ⟨.hbm, 279, rfl⟩
abbrev main_call3_v150 : Ref sig .tc := ⟨.hbm, 280, rfl⟩
abbrev main_call3_v151 : Ref sig .tc := ⟨.hbm, 281, rfl⟩
abbrev main_call3_c_39 : Ref sig .tc := ⟨.hbm, 282, rfl⟩
abbrev main_call3_v152 : Ref sig .tc := ⟨.hbm, 283, rfl⟩
abbrev main_call3_v153 : Ref sig .tc := ⟨.hbm, 284, rfl⟩
abbrev main_call3_v154 : Ref sig .tc := ⟨.hbm, 285, rfl⟩
abbrev main_call3_v155 : Ref sig .tc := ⟨.hbm, 286, rfl⟩
abbrev main_call3_v156 : Ref sig .tc := ⟨.hbm, 287, rfl⟩
abbrev main_call3_c_40 : Ref sig .tc := ⟨.hbm, 288, rfl⟩
abbrev main_call3_v157 : Ref sig .tc := ⟨.hbm, 289, rfl⟩
abbrev main_call3_v158 : Ref sig .tc := ⟨.hbm, 290, rfl⟩
abbrev main_call3_c_41 : Ref sig .tc := ⟨.hbm, 291, rfl⟩
abbrev main_call3_v159 : Ref sig .tc := ⟨.hbm, 292, rfl⟩
abbrev main_call3_v160 : Ref sig .tc := ⟨.hbm, 293, rfl⟩
abbrev main_call3_v161 : Ref sig .tc := ⟨.hbm, 294, rfl⟩
abbrev main_call3_v162 : Ref sig .tc := ⟨.hbm, 295, rfl⟩
abbrev main_call3_v163 : Ref sig .tc := ⟨.hbm, 296, rfl⟩
abbrev main_call3_c_42 : Ref sig .tc := ⟨.hbm, 297, rfl⟩
abbrev main_call3_v164 : Ref sig .tc := ⟨.hbm, 298, rfl⟩
abbrev main_call3_v165 : Ref sig .tc := ⟨.hbm, 299, rfl⟩
abbrev main_call3_c_43 : Ref sig .tc := ⟨.hbm, 300, rfl⟩
abbrev main_call3_v166 : Ref sig .tc := ⟨.hbm, 301, rfl⟩
abbrev main_call3_v167 : Ref sig .tc := ⟨.hbm, 302, rfl⟩
abbrev main_call3_v168 : Ref sig .tc := ⟨.hbm, 303, rfl⟩
abbrev main_call3_v169 : Ref sig .tc := ⟨.hbm, 304, rfl⟩
abbrev main_call3_v170 : Ref sig .tc := ⟨.hbm, 305, rfl⟩
abbrev main_v39_0 : Ref sig .tc := ⟨.hbm, 306, rfl⟩
abbrev main_call3_v172 : Ref sig .tc := ⟨.hbm, 307, rfl⟩
abbrev main_call3_v173 : Ref sig .tc := ⟨.hbm, 308, rfl⟩
abbrev main_call3_c_44 : Ref sig .tc := ⟨.hbm, 309, rfl⟩
abbrev main_call3_v174 : Ref sig .tc := ⟨.hbm, 310, rfl⟩
abbrev main_v39_1 : Ref sig .tc := ⟨.hbm, 311, rfl⟩
abbrev main_v40 : Ref sig .tc := ⟨.hbm, 312, rfl⟩
abbrev main_c_8 : Ref sig .tc := ⟨.hbm, 313, rfl⟩
abbrev main_v41 : Ref sig .tc := ⟨.hbm, 314, rfl⟩
abbrev main_v42 : Ref sig .tc := ⟨.hbm, 315, rfl⟩
abbrev main_c_9 : Ref sig .tc := ⟨.hbm, 316, rfl⟩
abbrev main_v43 : Ref sig .tc := ⟨.hbm, 317, rfl⟩
abbrev main_v44 : Ref sig .tc := ⟨.hbm, 318, rfl⟩
abbrev main_v45 : Ref sig .tc := ⟨.hbm, 319, rfl⟩
abbrev main_cst_10 : Ref sig .tc := ⟨.hbm, 320, rfl⟩
abbrev main_v46 : Ref sig .tc := ⟨.hbm, 321, rfl⟩
abbrev main_v47 : Ref sig .tc := ⟨.hbm, 322, rfl⟩
abbrev main_cst_11 : Ref sig .tc := ⟨.hbm, 323, rfl⟩
abbrev main_v48 : Ref sig .tc := ⟨.hbm, 324, rfl⟩
abbrev main_v49 : Ref sig .tc := ⟨.hbm, 325, rfl⟩
abbrev main_cst_12 : Ref sig .tc := ⟨.hbm, 326, rfl⟩
abbrev main_v50 : Ref sig .tc := ⟨.hbm, 327, rfl⟩
abbrev main_v51 : Ref sig .tc := ⟨.hbm, 328, rfl⟩
abbrev main_cst_13 : Ref sig .tc := ⟨.hbm, 329, rfl⟩
abbrev main_v52 : Ref sig .tc := ⟨.hbm, 330, rfl⟩
abbrev main_v53 : Ref sig .tc := ⟨.hbm, 331, rfl⟩
abbrev main_v54 : Ref sig .tc := ⟨.hbm, 332, rfl⟩
abbrev main_v55 : Ref sig .tc := ⟨.hbm, 333, rfl⟩
abbrev main_v56 : Ref sig .tc := ⟨.hbm, 334, rfl⟩
abbrev main_v57 : Ref sig .tc := ⟨.hbm, 335, rfl⟩
abbrev main_v58 : Ref sig .tc := ⟨.hbm, 336, rfl⟩
abbrev main_call4_v0 : Ref sig .tc := ⟨.hbm, 337, rfl⟩
abbrev main_call4_cst : Ref sig .tc := ⟨.hbm, 338, rfl⟩
abbrev main_call4_c : Ref sig .tc := ⟨.hbm, 339, rfl⟩
abbrev main_call4_v1_0 : Ref sig .tc := ⟨.hbm, 340, rfl⟩
abbrev main_v59 : Ref sig .tc := ⟨.hbm, 341, rfl⟩
abbrev main_v60 : Ref sig .tc := ⟨.hbm, 342, rfl⟩

abbrev nD : Nat := 1
abbrev τ : Topo := Topo.v7x

variable {F : FTy → Type} [FloatOps F]
-- ==== Proof.KernelStep.lean ====
/-
  What one block of the kernel computes: the six scratch columns after a grid point, as functions of the point, the block of
  logits staged there, the actions and the six columns before. No memory here: values only.
-/
module

public import proofs.«01_k».proof.Proof.Gen.KernelIdeal.Skeleton

@[expose] public section

noncomputable section

namespace Cert.KernelIdeal.Block

open Cert.KernelIdeal Cert.KernelIdeal.Gen
open Idealize.ShloMosaic

variable {F : FTy → Type} [FloatOps F]

/-- The six columns the kernel carries from block to block: the running maximum of the logits `m`, the sum of exponentials
    below it `s`, the index of the maximum `mi`, the maximum of the perturbed logits `gm`, its index `gi`, and the sum that
    picks out the action's logit `av`. -/
structure St (F : FTy → Type) [FloatOps F] where
  m : Vec F S128x1 .f32
  s : Vec F S128x1 .f32
  mi : Vec F S128x1 .i32
  gm : Vec F S128x1 .f32
  gi : Vec F S128x1 .i32
  av : Vec F S128x1 .f32

/-- The first word of the generator's state after two groups of four rounds, at the columns of point `i`. -/
def w0 (i : grid0.Coords) : IVec S128x2048 32 :=
  k0_pay50 (k0_pay36 (k0_pay23 i) (k0_pay24 i) k0_pay25) (k0_pay37 (k0_pay23 i) (k0_pay24 i) k0_pay25)
    (k0_pay38 (k0_pay23 i) (k0_pay24 i) k0_pay25) k0_pay39

/-- The second word there. -/
def w1 (i : grid0.Coords) : IVec S128x2048 32 :=
  k0_pay51 (k0_pay36 (k0_pay23 i) (k0_pay24 i) k0_pay25) (k0_pay37 (k0_pay23 i) (k0_pay24 i) k0_pay25)
    (k0_pay38 (k0_pay23 i) (k0_pay24 i) k0_pay25) k0_pay39

/-- The perturbed logits of the block at point `i`, -∞ outside the vocabulary. -/
def noisy (i : grid0.Coords) (x : Vec F S128x2048 .f32) : FVec F S128x2048 .f32 :=
  k0_pay64 x (k0_pay17 i) (k0_pay62 (w0 i) (w1 i)) (k0_pay63 (w0 i) (w1 i))

/-- Each row's largest perturbed logit in the block. -/
def noisyMax (i : grid0.Coords) (x : Vec F S128x2048 .f32) : FVec F S128x1 .f32 :=
  k0_pay65 x (k0_pay17 i) (k0_pay62 (w0 i) (w1 i)) (k0_pay63 (w0 i) (w1 i))

/-- That maximum along the row again. -/
def noisyMaxRow (i : grid0.Coords) (x : Vec F S128x2048 .f32) : FVec F S128x2048 .f32 :=
  k0_pay66 x (k0_pay17 i) (k0_pay62 (w0 i) (w1 i)) (k0_pay63 (w0 i) (w1 i))

/-- The columns after the first grid point, whatever they held. -/
def first (i : grid0.Coords) (x : Vec F S128x2048 .f32) (a : Vec F S128x1 .i32) : St F where
  m := k0_pay2 (k0_pay19 i x)
  s := k0_pay3 (k0_pay21 i x)
  mi := k0_pay4 (k0_pay20 i x)
  gm := k0_pay5 (noisyMax i x)
  gi := k0_pay6 (k0_pay16 i) (noisy i x) (noisyMaxRow i x)
  av := k0_pay7 (k0_pay22 i x a)

theorem first_m (i : grid0.Coords) (x : Vec F S128x2048 .f32) (a : Vec F S128x1 .i32) : (first i x a).m = k0_pay2 (k0_pay19 i x) := by rw [first]
theorem first_s (i : grid0.Coords) (x : Vec F S128x2048 .f32) (a : Vec F S128x1 .i32) : (first i x a).s = k0_pay3 (k0_pay21 i x) := by rw [first]
theorem first_mi (i : grid0.Coords) (x : Vec F S128x2048 .f32) (a : Vec F S128x1 .i32) : (first i x a).mi = k0_pay4 (k0_pay20 i x) := by rw [first]
theorem first_gm (i : grid0.Coords) (x : Vec F S128x2048 .f32) (a : Vec F S128x1 .i32) : (first i x a).gm = k0_pay5 (noisyMax i x) := by rw [first]
theorem first_gi (i : grid0.Coords) (x : Vec F S128x2048 .f32) (a : Vec F S128x1 .i32) :
    (first i x a).gi = k0_pay6 (k0_pay16 i) (noisy i x) (noisyMaxRow i x) := by rw [first]
theorem first_av (i : grid0.Coords) (x : Vec F S128x2048 .f32) (a : Vec F S128x1 .i32) : (first i x a).av = k0_pay7 (k0_pay22 i x a) := by rw [first]

/-- The columns after a later grid point that found them at `st`. -/
def next (i : grid0.Coords) (x : Vec F S128x2048 .f32) (a : Vec F S128x1 .i32) (st : St F) : St F where
  m := k0_pay13 (k0_pay19 i x) st.m
  s := k0_pay11 (k0_pay19 i x) (k0_pay21 i x) st.m st.s
  mi := k0_pay12 (k0_pay19 i x) (k0_pay20 i x) st.m st.mi
  gm := k0_pay15 (noisyMax i x) st.gm
  gi := k0_pay14 (noisyMax i x) (k0_pay1 (k0_pay16 i) (noisy i x) (noisyMaxRow i x)) st.gm st.gi
  av := k0_pay8 (k0_pay22 i x a) st.av

/-- The columns after grid point `i`. -/
def step (i : grid0.Coords) (x : Vec F S128x2048 .f32) (a : Vec F S128x1 .i32) (st : St F) : St F :=
  if (i 0).val = 0 then first i x a else next i x a st

/-- The log-probability the last point stores. -/
def logp (st : St F) : Vec F S128x1 .f32 := k0_pay9 st.av st.m st.s

/-! ## The kernel's three conditions on the point -/

/-- The kernel is at its first point. -/
abbrev condFirst (i : grid0.Coords) : Prop :=
  Scalar.cmpi .ne (Scalar.extui (Scalar.cmpi .eq (BitVec.ofNat 32 (i 0).val) 0#32) : BitVec 32) 0#32 = 1#1

/-- The kernel is past its first point. -/
abbrev condLater (i : grid0.Coords) : Prop :=
  Scalar.cmpi .ne (Scalar.extui (Scalar.cmpi .sgt (BitVec.ofNat 32 (i 0).val) 0#32) : BitVec 32) 0#32 = 1#1

/-- The first condition holds at coordinate 0 alone. -/
theorem condFirst_iff : ∀ n : Fin 49, (Scalar.cmpi .ne (Scalar.extui (Scalar.cmpi .eq (BitVec.ofNat 32 n.val) 0#32) : BitVec 32) 0#32 = 1#1) ↔ n.val = 0 := by
  decide +kernel

/-- The second condition holds at every other coordinate. -/
theorem condLater_iff : ∀ n : Fin 49, (Scalar.cmpi .ne (Scalar.extui (Scalar.cmpi .sgt (BitVec.ofNat 32 n.val) 0#32) : BitVec 32) 0#32 = 1#1) ↔ n.val ≠ 0 := by
  decide +kernel

end Cert.KernelIdeal.Block

end
-- ==== Proof.KernelBody.lean ====
/-
  The kernel body at one grid point, run once in each of its three cases: the first point, a point between, the last point.
  Each theorem says what the staging buffers and the six scratch buffers hold when the body returns.
-/
module

public import proofs.«01_k».proof.Proof.KernelStep
public import proofs.«01_k».proof.Proof.Gen.KernelIdeal.Frame
public import Idealize.ShloMosaic.Lib.Tactic
public import Idealize.ShloMosaic.Lib.VecWindow

@[expose] public section

set_option maxRecDepth 65536

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The six scratch buffers at the columns `st`. -/
def scratch (c : Dev nD) (st : St F) : sProp 𝕄 :=
  iprop(owns (c : Thread nD τ) (Memref.whole cc0_scratch0) fullShare st.m
    ∗ owns (c : Thread nD τ) (Memref.whole cc0_scratch1) fullShare st.s
    ∗ owns (c : Thread nD τ) (Memref.whole cc0_scratch2) fullShare st.mi
    ∗ owns (c : Thread nD τ) (Memref.whole cc0_scratch3) fullShare st.gm
    ∗ owns (c : Thread nD τ) (Memref.whole cc0_scratch4) fullShare st.gi
    ∗ owns (c : Thread nD τ) (Memref.whole cc0_scratch5) fullShare st.av)

/-- The five staging buffers at given contents. -/
def staged (c : Dev nD) (M1 : Memref sig .tc .vmem S128x2048 .f32) (M2 : Memref sig .tc .vmem S128x1 .i32)
    (M3 : Memref sig .tc .vmem S128x1 .f32) (M4 M5 : Memref sig .tc .vmem S128x1 .i32)
    (x : Vec F S128x2048 .f32) (a : Vec F S128x1 .i32) (o : Vec F S128x1 .f32) (p q : Vec F S128x1 .i32) : sProp 𝕄 :=
  iprop(owns (c : Thread nD τ) M1 fullShare x ∗ owns (c : Thread nD τ) M2 fullShare a ∗ owns (c : Thread nD τ) M3 fullShare o
    ∗ owns (c : Thread nD τ) M4 fullShare p ∗ owns (c : Thread nD τ) M5 fullShare q)

variable (c : Dev nD) (i : grid0.Coords)
  (M1 : Memref sig .tc .vmem S128x2048 .f32) (h1 : M1.IsWhole) (M2 : Memref sig .tc .vmem S128x1 .i32) (h2 : M2.IsWhole)
  (M3 : Memref sig .tc .vmem S128x1 .f32) (h3 : M3.IsWhole) (M4 : Memref sig .tc .vmem S128x1 .i32) (h4 : M4.IsWhole)
  (M5 : Memref sig .tc .vmem S128x1 .i32) (h5 : M5.IsWhole)
  (x : Vec F S128x2048 .f32) (a : Vec F S128x1 .i32) (o : Vec F S128x1 .f32) (p q : Vec F S128x1 .i32) (st : St F)

/-- The kernel on five staging buffers and its own scratch. -/
abbrev body : Prog (TpuEff nD τ sig (Elt F) Λ₀ .tc) PUnit :=
  cc0__fixed_cat_kernel i M1 h1 M2 h2 M3 h3 M4 h4 M5 h5
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)

/-- What a load of a whole staged or scratch buffer reads, at the printed rectangle. -/
abbrev readCol {sp : Space} {e : EltTy} (M : Memref sig .tc sp S128x1 e) (f : M.view.ty.Contents (Elt F)) : Vec F S128x1 e :=
  M.view.readAt (Elt F) (Rect.unit (s := S128x1) ![0, 0] S128x1.size inb_S128x1_S128x1_0_0).toLoadRect f

/-- The same of the block of logits. -/
abbrev readBlock (M : Memref sig .tc .vmem S128x2048 .f32) (f : M.view.ty.Contents (Elt F)) : Vec F S128x2048 .f32 :=
  M.view.readAt (Elt F) (Rect.unit (s := S128x2048) ![0, 0] S128x2048.size inb_S128x2048_S128x2048_0_0).toLoadRect f

/-- At the first point the body leaves the staging buffers as they were and the scratch at `first`. -/
theorem run_first (Q : PUnit → sProp 𝕄) (hf : condFirst i) (hl : ¬ condLater i) (he : ¬ k0_cond3 i = 1#1) :
    iprop(staged c M1 M2 M3 M4 M5 x a o p q ∗ scratch c st
        ∗ (iprop(staged c M1 M2 M3 M4 M5 x a o p q ∗ scratch c (first i x a)) -∗ Q ⟨⟩))
      ⊢ wp frame (wpE (defs₀ (F := F)) Variants.none c none) Set.univ (body i M1 h1 M2 h2 M3 h3 M4 h4 M5 h5) Q := by
  unfold body staged scratch
  simp only [cc0__fixed_cat_kernel_eq_skeleton]; unfold cc0__fixed_cat_kernel_skel
  unfold owns
  iintro ⟨⟨⟨%f1, %e1, H1⟩, ⟨%f2, %e2, H2⟩, H3, H4, H5⟩, ⟨⟨%g0, -, G0⟩, ⟨%g1, -, G1⟩, ⟨%g2, -, G2⟩, ⟨%g3, -, G3⟩, ⟨%g4, -, G4⟩, ⟨%g5, -, G5⟩⟩, Hk⟩
  have hs : first i (readBlock M1 f1) (readCol M2 f2) = first i x a := by
    rw [show readBlock M1 f1 = x from (View.readAt_full _ _ _).trans e1, show readCol M2 f2 = a from (View.readAt_full _ _ _).trans e2]
  sl_exec
  sl_step
  iapply Hk
  isplitl [H1 H2 H3 H4 H5]
  · isplitl [H1]; · iexists f1; isplitr; · ipureintro; exact e1
                    iexact H1
    isplitl [H2]; · iexists f2; isplitr; · ipureintro; exact e2
                    iexact H2
    isplitl [H3]; · iexact H3
    isplitl [H4]; · iexact H4
    iexact H5
  isplitl [G0]; · iexists _; isplitr; swap; · iexact G0
                  ipureintro; exact (View.read_writes_full _ _ _ _ _).trans ((first_m i _ _).symm.trans (congrArg St.m hs))
  isplitl [G1]; · iexists _; isplitr; swap; · iexact G1
                  ipureintro; exact (View.read_writes_full _ _ _ _ _).trans ((first_s i _ _).symm.trans (congrArg St.s hs))
  isplitl [G2]; · iexists _; isplitr; swap; · iexact G2
                  ipureintro; exact (View.read_writes_full _ _ _ _ _).trans ((first_mi i _ _).symm.trans (congrArg St.mi hs))
  isplitl [G3]; · iexists _; isplitr; swap; · iexact G3
                  ipureintro; exact (View.read_writes_full _ _ _ _ _).trans ((first_gm i _ _).symm.trans (congrArg St.gm hs))
  isplitl [G4]; · iexists _; isplitr; swap; · iexact G4
                  ipureintro; exact (View.read_writes_full _ _ _ _ _).trans ((first_gi i _ _).symm.trans (congrArg St.gi hs))
  iexists _; isplitr; swap; · iexact G5
  ipureintro; exact (View.read_writes_full _ _ _ _ _).trans ((first_av i _ _).symm.trans (congrArg St.av hs))

/-- At a point between the first and the last the body leaves the staging buffers as they were and the scratch at `next`. -/
theorem run_mid (Q : PUnit → sProp 𝕄) (hf : ¬ condFirst i) (hl : condLater i) (he : ¬ k0_cond3 i = 1#1) :
    iprop(staged c M1 M2 M3 M4 M5 x a o p q ∗ scratch c st
        ∗ (iprop(staged c M1 M2 M3 M4 M5 x a o p q ∗ scratch c (next i x a st)) -∗ Q ⟨⟩))
      ⊢ wp frame (wpE (defs₀ (F := F)) Variants.none c none) Set.univ (body i M1 h1 M2 h2 M3 h3 M4 h4 M5 h5) Q := by
  unfold body staged scratch
  simp only [cc0__fixed_cat_kernel_eq_skeleton]; unfold cc0__fixed_cat_kernel_skel
  unfold owns
  iintro ⟨⟨⟨%f1, %e1, H1⟩, ⟨%f2, %e2, H2⟩, H3, H4, H5⟩, ⟨⟨%g0, %d0, G0⟩, ⟨%g1, %d1, G1⟩, ⟨%g2, %d2, G2⟩, ⟨%g3, %d3, G3⟩, ⟨%g4, %d4, G4⟩, ⟨%g5, %d5, G5⟩⟩, Hk⟩
  have hs : next i (readBlock M1 f1) (readCol M2 f2) ⟨readCol (Memref.whole cc0_scratch0) g0, readCol (Memref.whole cc0_scratch1) g1,
      readCol (Memref.whole cc0_scratch2) g2, readCol (Memref.whole cc0_scratch3) g3, readCol (Memref.whole cc0_scratch4) g4,
      readCol (Memref.whole cc0_scratch5) g5⟩ = next i x a st := by
    rw [show readBlock M1 f1 = x from (View.readAt_full _ _ _).trans e1, show readCol M2 f2 = a from (View.readAt_full _ _ _).trans e2,
      show readCol (Memref.whole cc0_scratch0) g0 = st.m from (View.readAt_full _ _ _).trans d0, show readCol (Memref.whole cc0_scratch1) g1 = st.s from (View.readAt_full _ _ _).trans d1,
      show readCol (Memref.whole cc0_scratch2) g2 = st.mi from (View.readAt_full _ _ _).trans d2, show readCol (Memref.whole cc0_scratch3) g3 = st.gm from (View.readAt_full _ _ _).trans d3,
      show readCol (Memref.whole cc0_scratch4) g4 = st.gi from (View.readAt_full _ _ _).trans d4, show readCol (Memref.whole cc0_scratch5) g5 = st.av from (View.readAt_full _ _ _).trans d5]
  sl_exec
  sl_step
  iapply Hk
  isplitl [H1 H2 H3 H4 H5]
  · isplitl [H1]; · iexists f1; isplitr; · ipureintro; exact e1
                    iexact H1
    isplitl [H2]; · iexists f2; isplitr; · ipureintro; exact e2
                    iexact H2
    isplitl [H3]; · iexact H3
    isplitl [H4]; · iexact H4
    iexact H5
  isplitl [G0]; · iexists _; isplitr; swap; · iexact G0
                  ipureintro; exact (View.read_writes_full _ _ _ _ _).trans (congrArg St.m hs)
  isplitl [G1]; · iexists _; isplitr; swap; · iexact G1
                  ipureintro; exact (View.read_writes_full _ _ _ _ _).trans (congrArg St.s hs)
  isplitl [G2]; · iexists _; isplitr; swap; · iexact G2
                  ipureintro; exact (View.read_writes_full _ _ _ _ _).trans (congrArg St.mi hs)
  isplitl [G3]; · iexists _; isplitr; swap; · iexact G3
                  ipureintro; exact (View.read_writes_full _ _ _ _ _).trans (congrArg St.gm hs)
  isplitl [G4]; · iexists _; isplitr; swap; · iexact G4
                  ipureintro; exact (View.read_writes_full _ _ _ _ _).trans (congrArg St.gi hs)
  iexists _; isplitr; swap; · iexact G5
  ipureintro; exact (View.read_writes_full _ _ _ _ _).trans (congrArg St.av hs)

/-- At the last point the body leaves the scratch at `next` and the three results' buffers at what the scratch then gives. -/
theorem run_last (Q : PUnit → sProp 𝕄) (hf : ¬ condFirst i) (hl : condLater i) (he : k0_cond3 i = 1#1) :
    iprop(staged c M1 M2 M3 M4 M5 x a o p q ∗ scratch c st
        ∗ (iprop(staged c M1 M2 M3 M4 M5 x a (logp (next i x a st)) (next i x a st).mi (next i x a st).gi ∗ scratch c (next i x a st)) -∗ Q ⟨⟩))
      ⊢ wp frame (wpE (defs₀ (F := F)) Variants.none c none) Set.univ (body i M1 h1 M2 h2 M3 h3 M4 h4 M5 h5) Q := by
  unfold body staged scratch
  simp only [cc0__fixed_cat_kernel_eq_skeleton]; unfold cc0__fixed_cat_kernel_skel
  unfold owns
  iintro ⟨⟨⟨%f1, %e1, H1⟩, ⟨%f2, %e2, H2⟩, ⟨%f3, -, H3⟩, ⟨%f4, -, H4⟩, ⟨%f5, -, H5⟩⟩, ⟨⟨%g0, %d0, G0⟩, ⟨%g1, %d1, G1⟩, ⟨%g2, %d2, G2⟩, ⟨%g3, %d3, G3⟩, ⟨%g4, %d4, G4⟩, ⟨%g5, %d5, G5⟩⟩, Hk⟩
  have hs : next i (readBlock M1 f1) (readCol M2 f2) ⟨readCol (Memref.whole cc0_scratch0) g0, readCol (Memref.whole cc0_scratch1) g1,
      readCol (Memref.whole cc0_scratch2) g2, readCol (Memref.whole cc0_scratch3) g3, readCol (Memref.whole cc0_scratch4) g4,
      readCol (Memref.whole cc0_scratch5) g5⟩ = next i x a st := by
    rw [show readBlock M1 f1 = x from (View.readAt_full _ _ _).trans e1, show readCol M2 f2 = a from (View.readAt_full _ _ _).trans e2,
      show readCol (Memref.whole cc0_scratch0) g0 = st.m from (View.readAt_full _ _ _).trans d0, show readCol (Memref.whole cc0_scratch1) g1 = st.s from (View.readAt_full _ _ _).trans d1,
      show readCol (Memref.whole cc0_scratch2) g2 = st.mi from (View.readAt_full _ _ _).trans d2, show readCol (Memref.whole cc0_scratch3) g3 = st.gm from (View.readAt_full _ _ _).trans d3,
      show readCol (Memref.whole cc0_scratch4) g4 = st.gi from (View.readAt_full _ _ _).trans d4, show readCol (Memref.whole cc0_scratch5) g5 = st.av from (View.readAt_full _ _ _).trans d5]
  sl_exec
  sl_step
  iapply Hk
  isplitl [H1 H2 H3 H4 H5]
  · isplitl [H1]; · iexists f1; isplitr; · ipureintro; exact e1
                    iexact H1
    isplitl [H2]; · iexists f2; isplitr; · ipureintro; exact e2
                    iexact H2
    isplitl [H3]; · iexists _; isplitr; swap; · iexact H3
                    ipureintro
                    exact (View.read_writes_full _ _ _ _ _).trans (congr (congr (congrArg k0_pay9 ((View.readCov_full _ _ _ _ _).trans (congrArg St.av hs)))
                      ((View.readCov_full _ _ _ _ _).trans (congrArg St.m hs))) ((View.readCov_full _ _ _ _ _).trans (congrArg St.s hs)))
    isplitl [H4]; · iexists _; isplitr; swap; · iexact H4
                    ipureintro; exact (View.read_writes_full _ _ _ _ _).trans ((View.readCov_full _ _ _ _ _).trans (congrArg St.mi hs))
    iexists _; isplitr; swap; · iexact H5
    ipureintro; exact (View.read_writes_full _ _ _ _ _).trans ((View.readCov_full _ _ _ _ _).trans (congrArg St.gi hs))
  isplitl [G0]; · iexists _; isplitr; swap; · iexact G0
                  ipureintro; exact (View.read_writes_full _ _ _ _ _).trans (congrArg St.m hs)
  isplitl [G1]; · iexists _; isplitr; swap; · iexact G1
                  ipureintro; exact (View.read_writes_full _ _ _ _ _).trans (congrArg St.s hs)
  isplitl [G2]; · iexists _; isplitr; swap; · iexact G2
                  ipureintro; exact (View.read_writes_full _ _ _ _ _).trans (congrArg St.mi hs)
  isplitl [G3]; · iexists _; isplitr; swap; · iexact G3
                  ipureintro; exact (View.read_writes_full _ _ _ _ _).trans (congrArg St.gm hs)
  isplitl [G4]; · iexists _; isplitr; swap; · iexact G4
                  ipureintro; exact (View.read_writes_full _ _ _ _ _).trans (congrArg St.gi hs)
  iexists _; isplitr; swap; · iexact G5
  ipureintro; exact (View.read_writes_full _ _ _ _ _).trans (congrArg St.av hs)

end Cert.KernelIdeal.Block

end
-- ==== Proof.KernelRun.lean ====
/-
  The kernel's run: the six scratch columns are carried over the 49 grid points by `step`, and the three results hold what the
  last point makes of them. The columns of the last block that lie outside the logits are read at words nothing names, so what
  the scratch holds after `n` points is stated as a relation, `Reach`.
-/
module

public import proofs.«01_k».proof.Proof.KernelBody
public import Idealize.ShloMosaic.Lib.Pipeline.ArrRel

@[expose] public section

set_option maxRecDepth 65536

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- Grid point `t` has coordinate `t`. -/
theorem coord_val : ∀ t : Fin grid0.N, (grid0.coords t 0).val = t.val := by decide +kernel

/-- The third condition holds at the last coordinate alone. -/
theorem condLast_iff : ∀ t : Fin grid0.N, k0_cond3 (grid0.coords t) = 1#1 ↔ t.val = 48 := by decide +kernel

/-- One grid point, whichever it is: the scratch goes from `st` to `step i x a st`, the staged inputs stay, and at the last
    point the results' buffers hold what the new columns give. -/
theorem run_point (c : Dev nD) (t : Fin grid0.N)
    (M1 : Memref sig .tc .vmem S128x2048 .f32) (h1 : M1.IsWhole) (M2 : Memref sig .tc .vmem S128x1 .i32) (h2 : M2.IsWhole)
    (M3 : Memref sig .tc .vmem S128x1 .f32) (h3 : M3.IsWhole) (M4 : Memref sig .tc .vmem S128x1 .i32) (h4 : M4.IsWhole)
    (M5 : Memref sig .tc .vmem S128x1 .i32) (h5 : M5.IsWhole)
    (x : Vec F S128x2048 .f32) (a : Vec F S128x1 .i32) (o : Vec F S128x1 .f32) (p q : Vec F S128x1 .i32) (st : St F) (Q : PUnit → sProp 𝕄) :
    iprop(staged c M1 M2 M3 M4 M5 x a o p q ∗ scratch c st
        ∗ (iprop(∃ (o' : Vec F S128x1 .f32) (p' q' : Vec F S128x1 .i32),
            ⌜t.val = 48 → o' = logp (step (grid0.coords t) x a st) ∧ p' = (step (grid0.coords t) x a st).mi ∧ q' = (step (grid0.coords t) x a st).gi⌝
            ∗ staged c M1 M2 M3 M4 M5 x a o' p' q' ∗ scratch c (step (grid0.coords t) x a st)) -∗ Q ⟨⟩))
      ⊢ wp frame (wpE (defs₀ (F := F)) Variants.none c none) Set.univ (body (grid0.coords t) M1 h1 M2 h2 M3 h3 M4 h4 M5 h5) Q := by
  have hv := coord_val t
  by_cases h0 : t.val = 0
  · rw [show step (grid0.coords t) x a st = first (grid0.coords t) x a from if_pos (hv.trans h0)]
    iintro ⟨H, G, Hk⟩
    iapply run_first c (grid0.coords t) M1 h1 M2 h2 M3 h3 M4 h4 M5 h5 x a o p q st Q
      ((condFirst_iff (grid0.coords t 0)).mpr (hv.trans h0)) (fun h => (condLater_iff (grid0.coords t 0)).mp h (hv.trans h0))
      (fun h => by have := (condLast_iff t).mp h; omega)
    isplitl [H]; · iexact H
    isplitl [G]; · iexact G
    iintro ⟨H, G⟩
    iapply Hk
    iexists o, p, q
    isplitr; · ipureintro; exact fun h => by omega
    isplitl [H]; · iexact H
    iexact G
  · rw [show step (grid0.coords t) x a st = next (grid0.coords t) x a st from if_neg (fun h => h0 (hv.symm.trans h))]
    by_cases h48 : t.val = 48
    · iintro ⟨H, G, Hk⟩
      iapply run_last c (grid0.coords t) M1 h1 M2 h2 M3 h3 M4 h4 M5 h5 x a o p q st Q
        (fun h => h0 (hv.symm.trans ((condFirst_iff (grid0.coords t 0)).mp h)))
        ((condLater_iff (grid0.coords t 0)).mpr (fun h => h0 (hv.symm.trans h))) ((condLast_iff t).mpr h48)
      isplitl [H]; · iexact H
      isplitl [G]; · iexact G
      iintro ⟨H, G⟩
      iapply Hk
      iexists _, _, _
      isplitr; swap
      · isplitl [H]; · iexact H
        iexact G
      ipureintro; exact fun _ => ⟨rfl, rfl, rfl⟩
    · iintro ⟨H, G, Hk⟩
      iapply run_mid c (grid0.coords t) M1 h1 M2 h2 M3 h3 M4 h4 M5 h5 x a o p q st Q
        (fun h => h0 (hv.symm.trans ((condFirst_iff (grid0.coords t 0)).mp h)))
        ((condLater_iff (grid0.coords t 0)).mpr (fun h => h0 (hv.symm.trans h))) (fun h => h48 ((condLast_iff t).mp h))
      isplitl [H]; · iexact H
      isplitl [G]; · iexact G
      iintro ⟨H, G⟩
      iapply Hk
      iexists o, p, q
      isplitr; · ipureintro; exact fun h => absurd h h48
      isplitl [H]; · iexact H
      iexact G

variable (m : (ℓ : Loc nD τ sig) → Buf (Elt F) ℓ) (ρ : Dev nD → PrngReg)

/-- The logits' block at point `t` in a staging buffer that held `d`. -/
def blockAt (c : Dev nD) (t : Fin grid0.N) (d : Vec F S128x2048 .f32) : Vec F S128x2048 .f32 :=
  (cfg0.win 0).fill (grid0.coords t) d (iblk m c 0 t)

/-- The actions in a staging buffer that held `d`. -/
def actAt (c : Dev nD) (t : Fin grid0.N) (d : Vec F S128x1 .i32) : Vec F S128x1 .i32 :=
  (cfg0.win 1).fill (grid0.coords t) d (iblk m c 1 t)

/-- What the scratch may hold before point `n`: anything before the first; after a point, `step` of what it held there on the
    block and the actions, whatever their staging buffers held beside them. -/
inductive Reach (c : Dev nD) : ℕ → St F → Prop
  | start (st : St F) : Reach c 0 st
  | point (t : Fin grid0.N) (d : Vec F S128x2048 .f32) (e : Vec F S128x1 .i32) (st : St F) :
      Reach c t.val st → Reach c (t.val + 1) (step (grid0.coords t) (blockAt m c t d) (actAt m c t e) st)

/-- What the body may leave in each window's buffer: an input as found; a result, at the last point, what columns that the
    scratch may hold after it give. -/
def leaves (c : Dev nD) : (w : Fin cfg0.W) → Fin cfg0.N → (Y X : (cfg0.win w).block.Idx → Elt F (cfg0.win w).elt) → Prop := fun
  | 0 => fun _ Y X => X = Y
  | 1 => fun _ Y X => X = Y
  | 2 => fun t _ X => t.val = 48 → ∃ st, Reach m c 49 st ∧ X = logp st
  | 3 => fun t _ X => t.val = 48 → ∃ st, Reach m c 49 st ∧ X = st.mi
  | 4 => fun t _ X => t.val = 48 → ∃ st, Reach m c 49 st ∧ X = st.gi
  | ⟨_ + 5, h⟩ => absurd h (Nat.not_lt.2 (Nat.le_add_left _ _))

/-- The scratch before point `n`, and the generator's register. -/
def inv (c : Dev nD) (n : ℕ) : sProp 𝕄 :=
  iprop((∃ st : St F, ⌜Reach m c n st⌝ ∗ scratch c st) ∗ ∃ r, prngReg c r)

/-- The proof data on core `c`. -/
def rdat (c : Dev nD) : RDat τ (Elt F) Unit ℕ (UR sig nD τ) ℕ cfg0 c where
  A w := V m c (Pipeline.arrRef spec0 w)
  after := leaves m c
  Φ t := inv m c t.val
  q _ := fullShare
  owed _ := 0

/-- The body table's row at the point is the body as `bodyAt0` spells it. -/
theorem row_eq (t : Fin cfg0.N) : defs₀ (F := F) .tc cfg0.body (cfg0.bodyArgs t (cfg0.slots t)) = bodyAt0 t := by
  unfold defs₀; rw [Defs.onTc_tc]

/-- The body meets the data at every point. -/
theorem body_ok (c : Dev nD) : (rdat m c).BodyObligation (defs₀ (F := F)) Variants.none () Set.univ := fun t Y hY => by
  obtain ⟨d, hd⟩ := ((rdat m c).finds_of_fetch (fetch0_0 t) (Y 0)).mp (hY 0)
  obtain ⟨e, he⟩ := (rdat m c).finds_in_eq_fetched 1 rfl (fun _ _ _ => rfl) (fun _ _ _ h => h) t (Y 1) (hY 1)
  rw [bigSep_W0, bigSep_W0, row_eq, show (rdat m c).Φ t.succ = inv m c (t.val + 1) from rfl]
  show iprop(inv m c t.val ∗ Pipeline.owesWithin c 0 _ ∗ staged c (st0_0 t) (st0_1 t) (st0_2 t) (st0_3 t) (st0_4 t) (Y 0) (Y 1) (Y 2) (Y 3) (Y 4)) ⊢ _
  unfold inv Pipeline.owesWithin
  iintro ⟨⟨⟨%st, %hst, G⟩, R⟩, ⟨%W, %hW, HO⟩, H⟩
  iapply run_point c t (st0_0 t) _ (st0_1 t) _ (st0_2 t) _ (st0_3 t) _ (st0_4 t) _ (Y 0) (Y 1) (Y 2) (Y 3) (Y 4) st _
  isplitl [H]; · iexact H
  isplitl [G]; · iexact G
  iintro ⟨%o, %p, %q, %ho, H, G⟩
  have hr : Reach m c (t.val + 1) (step (grid0.coords t) (Y 0) (Y 1) st) := by
    rw [hd, he]; exact Reach.point t d e st hst
  have hl : t.val = 48 → Reach m c 49 (step (grid0.coords t) (Y 0) (Y 1) st) := fun h => by rw [h] at hr; exact hr
  isplitl [G R]
  · isplitl [G]
    · iexists _; isplitr; swap; · iexact G
      ipureintro; exact hr
    iexact R
  isplitl [HO]
  · iexists W; isplitr; · ipureintro; exact fun _ _ => Or.inl trivial
    iexact HO
  unfold staged
  icases H with ⟨H1, H2, H3, H4, H5⟩
  isplitl [H1]; · iexists (Y 0); isplitr; swap; · iexact H1
                  ipureintro; exact rfl
  isplitl [H2]; · iexists (Y 1); isplitr; swap; · iexact H2
                  ipureintro; exact rfl
  isplitl [H3]; · iexists o; isplitr; swap; · iexact H3
                  ipureintro; exact fun h => ⟨_, hl h, (ho h).1⟩
  isplitl [H4]; · iexists p; isplitr; swap; · iexact H4
                  ipureintro; exact fun h => ⟨_, hl h, (ho h).2.1⟩
  iexists q; isplitr; swap; · iexact H5
  ipureintro; exact fun h => ⟨_, hl h, (ho h).2.2⟩

/-- The launch gives the scratch at some columns. -/
theorem enter (c : Dev nD) : (Pipeline.ΦA (cfgs 0).spec c : sProp 𝕄) ⊢ (rdat m c).Φ 0 := by
  show _ ⊢ inv m c 0
  unfold Pipeline.ΦA inv scratch
  show iprop(Pipeline.scopedRest spec0 c ∗ _) ⊢ _
  rw [scopedRest0_eq]
  iintro ⟨⟨⟨%f0, H0⟩, ⟨%f1, H1⟩, ⟨%f2, H2⟩, ⟨%f3, H3⟩, ⟨%f4, H4⟩, ⟨%f5, H5⟩⟩, R⟩
  isplitl [H0 H1 H2 H3 H4 H5]
  · iexists (⟨f0, f1, f2, f3, f4, f5⟩ : St F)
    isplitr; · ipureintro; exact Reach.start _
    rw [owns_whole, owns_whole, owns_whole, owns_whole, owns_whole, owns_whole]
    isplitl [H0]; · iexact H0
    isplitl [H1]; · iexact H1
    isplitl [H2]; · iexact H2
    isplitl [H3]; · iexact H3
    isplitl [H4]; · iexact H4
    iexact H5
  iexact R

/-- The scratch is given back at the end. -/
theorem leave (c : Dev nD) : (rdat m c).Φ (Fin.last (cfgs 0).N) ⊢ (Pipeline.ΦA (cfgs 0).spec c : sProp 𝕄) := by
  show inv m c _ ⊢ _
  unfold Pipeline.ΦA inv scratch
  show _ ⊢ iprop(Pipeline.scopedRest spec0 c ∗ _)
  rw [scopedRest0_eq]
  iintro ⟨⟨%st, -, H⟩, R⟩
  isplitl [H]
  · rw [owns_whole, owns_whole, owns_whole, owns_whole, owns_whole, owns_whole]
    icases H with ⟨H0, H1, H2, H3, H4, H5⟩
    isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact R

set_option backward.isDefEq.respectTransparency.types false in
/-- Every run ends, with the windows' arrays at contents the data allow and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_ok m) (hshare := fun c => (rdat m c).share_full fun _ => rfl) (howed := fun _ _ => rfl) (V := V m)
    (hmain := hmain m Variants.none) (hA := fun _ _ => rfl) (hin := enter m) (hout := leave m)

/-! ## What the three results hold -/

/-- The last grid point. -/
def lastPt : Fin cfg0.N := ⟨48, by decide⟩

/-- Each result is written back once, whole, at the last point. -/
theorem whole2 : (cfg0.win 2).WholeAt lastPt :=
  ⟨(flush0_2 _).mpr rfl, fun t h => Fin.ext (by have := (flush0_2 t).mp h; have := t.isLt; have : cfg0.N = 49 := N_0; show t.val = 48; omega), by decide⟩
theorem whole3 : (cfg0.win 3).WholeAt lastPt :=
  ⟨(flush0_3 _).mpr rfl, fun t h => Fin.ext (by have := (flush0_3 t).mp h; have := t.isLt; have : cfg0.N = 49 := N_0; show t.val = 48; omega), by decide⟩
theorem whole4 : (cfg0.win 4).WholeAt lastPt :=
  ⟨(flush0_4 _).mpr rfl, fun t h => Fin.ext (by have := (flush0_4 t).mp h; have := t.isLt; have : cfg0.N = 49 := N_0; show t.val = 48; omega), by decide⟩

/-- A result's contents, of what the data allow its array at the end. -/
theorem out2 {c : Dev nD} {G : Vec F S128x1 .f32} (hG : (rdat m c).ArrAt 2 cfg0.N G) : ∃ st, Reach m c 49 st ∧ G = logp st := by
  obtain ⟨X, ⟨Y, -, hX⟩, hj⟩ := Pipeline.RDat.ArrAt.emb_eq_of_wholeAt hG whole2
  obtain ⟨st, hst, rfl⟩ := (show lastPt.val = 48 → ∃ st, Reach m c 49 st ∧ X = logp st from hX) rfl
  exact ⟨st, hst, funext fun j => hj j⟩
theorem out3 {c : Dev nD} {G : Vec F S128x1 .i32} (hG : (rdat m c).ArrAt 3 cfg0.N G) : ∃ st, Reach m c 49 st ∧ G = st.mi := by
  obtain ⟨X, ⟨Y, -, hX⟩, hj⟩ := Pipeline.RDat.ArrAt.emb_eq_of_wholeAt hG whole3
  obtain ⟨st, hst, rfl⟩ := (show lastPt.val = 48 → ∃ st, Reach m c 49 st ∧ X = st.mi from hX) rfl
  exact ⟨st, hst, funext fun j => hj j⟩
theorem out4 {c : Dev nD} {G : Vec F S128x1 .i32} (hG : (rdat m c).ArrAt 4 cfg0.N G) : ∃ st, Reach m c 49 st ∧ G = st.gi := by
  obtain ⟨X, ⟨Y, -, hX⟩, hj⟩ := Pipeline.RDat.ArrAt.emb_eq_of_wholeAt hG whole4
  obtain ⟨st, hst, rfl⟩ := (show lastPt.val = 48 → ∃ st, Reach m c 49 st ∧ X = st.gi from hX) rfl
  exact ⟨st, hst, funext fun j => hj j⟩

/-- Every run ends with the arguments as launched, every counter at zero, and the three results at what columns that the scratch
    may hold after the last point give. -/
theorem run :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ (∃ st : St F, Reach m c 49 st ∧ r.2.mem ((c.tc : Thread nD τ).loc main_v0_0) = logp st)
        ∧ (∃ st : St F, Reach m c 49 st ∧ r.2.mem ((c.tc : Thread nD τ).loc main_v0_1) = st.mi)
        ∧ (∃ st : St F, Reach m c 49 st ∧ r.2.mem ((c.tc : Thread nD τ).loc main_v0_2) = st.gi))
      ∧ r.2.sem = fun _ => 0) :=
  (θ_run defs _ _).mono (fun _ h => ⟨fun c => ⟨h.1.arr_in c 0 rfl, h.1.arr_in c 1 rfl, out2 m ((h.1 c).1 2), out3 m ((h.1 c).1 3), out4 m ((h.1 c).1 4)⟩, h.2⟩)
    (run_main m ρ)

end Cert.KernelIdeal.Block

end
-- ==== Proof.Line.lean ====
/- Straight-line programs in which every operation writes the next buffer: what such a program leaves
   satisfies the equation of each of its operations. `Holds W p` is the conjunction of the operations'
   equations at the contents `W`; `Line p a b` says that `p` writes the buffers numbered `a, …, b - 1`, one
   operation each, reading only buffers with a smaller number; `run_line` is the run. -/
module

public import Idealize.ShloMosaic.Lib.StableHlo.RunHlo
public import Idealize.ShloMosaic.Lib.Quiescent

@[expose] public section

noncomputable section

namespace Cert.Straight

open Idealize.ShloMosaic Idealize.ShloMosaic.TcCoe Idealize.ShloMosaic.StableHlo Idealize.SL.Sem

variable {nD : Nat} {τ : Topo} {sig : RefSig} {Val : EltTy → Type} {Λ : Labels}

/-- What one effect asks of the contents `W`, `rest` being what the rest of the program asks: an operation's
    start asks for its equation, its end hands over the contents, any other effect is not in a straight line. -/
def stepHolds (W : Valuation τ sig Val) : {β : Type} → TpuEff nD τ sig Val Λ .tc β → (β → Prop) → Prop
  | _, .hloBegin _ op, rest => (∀ r : Ref sig .tc, Proc.devRef .tc r ∈ op.writes →
      W (Proc.devRef .tc r) = op.result W (Proc.devRef .tc r)) ∧ rest ⟨⟩
  | _, .hloEnd _ _, rest => rest fun b => W b.1
  | _, _, _ => False

/-- The equation of each operation of the straight-line program at the contents `W`: what it writes is its
    result on `W`. -/
def Holds (W : Valuation τ sig Val) : Prog (TpuEff nD τ sig Val Λ .tc) PUnit → Prop
  | .ret _ => True
  | .op e k => stepHolds W e fun x => Holds W (k x)

theorem stepHolds_mono (W : Valuation τ sig Val) {β : Type} (e : TpuEff nD τ sig Val Λ .tc β) {R R' : β → Prop}
    (h : stepHolds W e R) (hR : ∀ x, R x → R' x) : stepHolds W e R' := by
  cases e <;> first | exact h.elim | exact ⟨h.1, hR _ h.2⟩ | exact hR _ h

theorem stepHolds_and (W : Valuation τ sig Val) {β : Type} (e : TpuEff nD τ sig Val Λ .tc β) {R : β → Prop} {Q : Prop}
    (h : stepHolds W e fun x => R x ∧ Q) : stepHolds W e R ∧ Q := by
  cases e <;> first | exact h.elim | exact ⟨⟨h.1, h.2.1⟩, h.2.2⟩ | exact h

/-- The equations of one program and then another are those of both. -/
theorem Holds.bind {W : Valuation τ sig Val} {p q : Prog (TpuEff nD τ sig Val Λ .tc) PUnit}
    (h : Holds W (p >>= fun _ => q)) : Holds W p ∧ Holds W q := by
  suffices H : ∀ {α : Type} (p : Prog (TpuEff nD τ sig Val Λ .tc) α) (hα : α = PUnit), Holds W (hα ▸ p >>= fun _ => q) →
      Holds W (hα ▸ p) ∧ Holds W q from H p rfl h
  intro α p
  induction p with
  | ret a => intro hα h; subst hα; exact ⟨trivial, h⟩
  | op e k ih =>
    intro hα h
    subst hα
    exact stepHolds_and W e (stepHolds_mono W e h fun x hx => ih x rfl hx)

/-- The number of a buffer: its place among the buffers of its space. -/
def rank (r : Ref sig .tc) : ℕ := r.idx.1

/-- The operation writes one buffer, numbered `k` among the buffers of device memory, and what it writes depends only on device-memory
    buffers numbered below `k`. -/
structure Fits (k : ℕ) (op : HloOp τ sig Val) : Prop where
  out : ∃ y : Ref sig .tc, y.space = .hbm ∧ rank y = k ∧ op.writes = {Proc.devRef .tc y}
  reads : ∀ V V' : Valuation τ sig Val, (∀ r : Ref sig .tc, r.space = .hbm → rank r < k →
    V (Proc.devRef .tc r) = V' (Proc.devRef .tc r)) → ∀ y : Ref sig .tc, Proc.devRef .tc y ∈ op.writes →
    op.result V (Proc.devRef .tc y) = op.result V' (Proc.devRef .tc y)
  tc : op.bufs ⊆ tcRefs τ sig
  fresh : op.fresh = ∅

/-- Consecutive operations write consecutively numbered buffers. -/
inductive Chain : ℕ → List (HloOp τ sig Val) → ℕ → Prop
  | nil (k : ℕ) : Chain k [] k
  | cons {k l : ℕ} {op : HloOp τ sig Val} {ops : List (HloOp τ sig Val)} (h : Fits k op) (t : Chain (k + 1) ops l) :
      Chain k (op :: ops) l

theorem Chain.append {a b c : ℕ} {l l' : List (HloOp τ sig Val)} (h : Chain a l b) (h' : Chain b l' c) :
    Chain a (l ++ l') c := by
  induction h with
  | nil => exact h'
  | cons f _ ih => exact .cons f (ih h')

theorem Chain.fits {a b : ℕ} {l : List (HloOp τ sig Val)} (h : Chain a l b) : ∀ op ∈ l, ∃ k, a ≤ k ∧ Fits k op := by
  induction h with
  | nil => intro _ h; cases h
  | cons f _ ih =>
    intro op hop
    rcases List.mem_cons.mp hop with rfl | hop
    · exact ⟨_, le_rfl, f⟩
    · obtain ⟨k, hk, hf⟩ := ih op hop; exact ⟨k, by omega, hf⟩

/-- A buffer numbered below the first one written keeps its contents. -/
theorem Chain.keeps {a b : ℕ} {l : List (HloOp τ sig Val)} (h : Chain a l b) (V : Valuation τ sig Val) (r : Ref sig .tc)
    (hr : r.space = .hbm → rank r < a) : after l V (Proc.devRef .tc r) = V (Proc.devRef .tc r) := by
  refine after_of_forall_not_mem l V fun op hop hm => ?_
  obtain ⟨k, hk, hf⟩ := h.fits op hop
  obtain ⟨y, hy, hyk, hw⟩ := hf.out
  rw [hw, Finset.mem_singleton] at hm
  obtain rfl := Proc.devRef_injective _ hm
  have := hr hy
  omega

/-- After a chain of operations every operation's equation holds. -/
theorem Chain.equations {a b : ℕ} {l : List (HloOp τ sig Val)} (h : Chain a l b) (V : Valuation τ sig Val) :
    ∀ op ∈ l, ∀ r : Ref sig .tc, Proc.devRef .tc r ∈ op.writes →
      after l V (Proc.devRef .tc r) = op.result (after l V) (Proc.devRef .tc r) := by
  induction h generalizing V with
  | nil => intro _ h; cases h
  | @cons k _ op ops f t ih =>
    intro op' hop r hr
    rcases List.mem_cons.mp hop with rfl | hop
    · obtain ⟨y, hy, hyk, hw⟩ := f.out
      have hry := hr
      rw [hw, Finset.mem_singleton] at hry
      obtain rfl := Proc.devRef_injective _ hry
      rw [after_cons, t.keeps _ r (fun _ => by omega)]
      refine f.reads _ _ (fun s hs hlt => ?_) r hr
      rw [t.keeps _ s (fun _ => by omega)]
      refine (op'.result_of_not_mem V ?_).symm
      rw [hw, Finset.mem_singleton]
      intro e
      obtain rfl := Proc.devRef_injective _ e
      omega
    · exact ih _ op' hop r hr

/-- The program is a straight line of operations that write the buffers numbered `a, …, b - 1`. -/
def Line (p : Prog (TpuEff nD τ sig Val Λ .tc) PUnit) (a b : ℕ) : Prop :=
  ∃ ops, p = seq ops ∧ Chain a ops b

theorem Line.nil (a : ℕ) : Line (pure ⟨⟩ : Prog (TpuEff nD τ sig Val Λ .tc) PUnit) a a := ⟨[], rfl, .nil a⟩

theorem Line.op {a : ℕ} {op : HloOp τ sig Val} (h : Fits a op) :
    Line (hlo rfl op fun _ => .ret ⟨⟩ : Prog (TpuEff nD τ sig Val Λ .tc) PUnit) a (a + 1) :=
  ⟨[op], rfl, .cons h (.nil _)⟩

theorem Line.bind {p q : Prog (TpuEff nD τ sig Val Λ .tc) PUnit} {a b c : ℕ} (h : Line p a b) (h' : Line q b c) :
    Line (p >>= fun _ => q) a c := by
  obtain ⟨l, rfl, hl⟩ := h
  obtain ⟨l', rfl, hl'⟩ := h'
  exact ⟨l ++ l', (seq_append l l').symm, hl.append hl'⟩

theorem Line.cons {a c : ℕ} {op : HloOp τ sig Val} {q : Prog (TpuEff nD τ sig Val Λ .tc) PUnit} (h : Fits a op)
    (h' : Line q (a + 1) c) : Line ((hlo rfl op fun _ => .ret (⟨⟩ : PUnit)) >>= fun _ => q) a c := (Line.op h).bind h'

theorem holds_seq (W : Valuation τ sig Val) : ∀ ops : List (HloOp τ sig Val),
    (∀ op ∈ ops, ∀ r : Ref sig .tc, Proc.devRef .tc r ∈ op.writes → W (Proc.devRef .tc r) = op.result W (Proc.devRef .tc r)) →
    Holds W (seq ops : Prog (TpuEff nD τ sig Val Λ .tc) PUnit)
  | [], _ => trivial
  | op :: ops, h => ⟨h op List.mem_cons_self, holds_seq W ops fun o ho => h o (List.mem_cons_of_mem _ ho)⟩

/-- The run of a straight line: it ends with no counter raised, its contents satisfy every operation's equation,
    and the buffers numbered below the first one written hold what they held. -/
theorem run_line (defs : Defs nD τ sig Val Λ) (main : Dev nD → Prog (TpuEff nD τ sig Val Λ .tc) PUnit) {a b : ℕ}
    (hmain : ∀ d, Line (main d) a b)
    (hR : (Finset.univ.filter fun b : Ref sig .tc => b.isScoped) = ∅)
    (hC : (Finset.univ.filter fun sm : SemLoc sig => sm.isScoped .tc) = ∅)
    (hsem : sig.nSem + sig.nDmaSem = 0)
    (m : (ℓ : Loc nD τ sig) → Buf Val ℓ) (ρ : Dev nD → PrngReg) :
    θ_run defs (onTc (τ := τ) main) ⟨m, fun _ => 0, ρ⟩ fun r =>
      r.2.sem = (fun _ => 0) ∧ ∀ d : Dev nD, ∃ W : Valuation τ sig Val, Holds W (main d) ∧
        (∀ b : Ref sig .tc, r.2.mem ((d.tc : Thread nD τ).loc b) = W (Proc.devRef .tc b)) ∧
        ∀ b : Ref sig .tc, b.space = .hbm → rank b < a → W (Proc.devRef .tc b) = m ((d.tc : Thread nD τ).loc b) := by
  choose ops hops hch using hmain
  refine θ_run_mono (run_seq hR hC defs main ops hops
    (fun d => List.forall_iff_forall_mem.mpr fun op hop => by obtain ⟨k, _, hf⟩ := (hch d).fits op hop; exact hf.tc) m ρ
    (fun d op hop => by obtain ⟨k, _, hf⟩ := (hch d).fits op hop; exact hf.fresh)) fun r hr => ?_
  refine ⟨sem_eq_zero_of_no_sems hsem _, fun d => ⟨after (ops d) (launchContents m d), ?_, hr d, fun b _ hb => ?_⟩⟩
  · rw [hops d]; exact holds_seq _ _ ((hch d).equations _)
  · rw [(hch d).keeps _ b (fun _ => hb)]

/-! ### The operations -/

section Ops

variable {k : ℕ} {x a b c e y : Ref sig .tc}

/-- What an operation of one result needs: its operands are numbered below its result. -/
theorem fits_of {op : HloOp τ sig Val} (hw : op.writes = {Proc.devRef .tc y}) (hs : y.space = .hbm) (hy : rank y = k)
    (tc : op.bufs ⊆ tcRefs τ sig) (fresh : op.fresh = ∅)
    (reads : ∀ V V' : Valuation τ sig Val, (∀ r : Ref sig .tc, r.space = .hbm → rank r < k →
      V (Proc.devRef .tc r) = V' (Proc.devRef .tc r)) → op.result V (Proc.devRef .tc y) = op.result V' (Proc.devRef .tc y)) :
    Fits k op :=
  ⟨⟨y, hs, hy, hw⟩, fun V V' h z hz => by
    rw [hw, Finset.mem_singleton] at hz
    obtain rfl := Proc.devRef_injective _ hz
    exact reads V V' h, tc, fresh⟩

theorem fits_nullary {v : y.ty.Contents Val} {hd} (hs : y.space = .hbm) (hy : rank y = k) :
    Fits k (nullary (τ := τ) y v hd) :=
  fits_of (nullary_writes ..) hs hy (nullary_bufs_sub ..) rfl fun V V' _ => by rw [nullary_result', nullary_result']

theorem fits_unary {f : x.ty.Contents Val → y.ty.Contents Val} {hx hd} (hs : y.space = .hbm) (hy : rank y = k)
    (h1 : x.space = .hbm ∧ rank x < k) : Fits k (unary (τ := τ) x y f hx hd) :=
  fits_of (unary_writes ..) hs hy (unary_bufs_sub ..) rfl fun V V' h => by
    rw [unary_result', unary_result', h x h1.1 h1.2]

theorem fits_binary {f : a.ty.Contents Val → b.ty.Contents Val → y.ty.Contents Val} {ha hb hd} (hs : y.space = .hbm)
    (hy : rank y = k) (h1 : a.space = .hbm ∧ rank a < k) (h2 : b.space = .hbm ∧ rank b < k) :
    Fits k (binary (τ := τ) a b y f ha hb hd) :=
  fits_of (binary_writes ..) hs hy (binary_bufs_sub ..) rfl fun V V' h => by
    rw [binary_result', binary_result', h a h1.1 h1.2, h b h2.1 h2.2]

theorem fits_ternary {f : c.ty.Contents Val → a.ty.Contents Val → b.ty.Contents Val → y.ty.Contents Val} {hc ha hb hd}
    (hs : y.space = .hbm) (hy : rank y = k) (h0 : c.space = .hbm ∧ rank c < k) (h1 : a.space = .hbm ∧ rank a < k)
    (h2 : b.space = .hbm ∧ rank b < k) : Fits k (ternary (τ := τ) c a b y f hc ha hb hd) :=
  fits_of (ternary_writes ..) hs hy (ternary_bufs_sub ..) rfl fun V V' h => by
    rw [ternary_result', ternary_result', h a h1.1 h1.2, h b h2.1 h2.2, h c h0.1 h0.2]

theorem fits_quaternary
    {f : a.ty.Contents Val → b.ty.Contents Val → c.ty.Contents Val → e.ty.Contents Val → y.ty.Contents Val} {ha hb hc he hd}
    (hs : y.space = .hbm) (hy : rank y = k) (h1 : a.space = .hbm ∧ rank a < k) (h2 : b.space = .hbm ∧ rank b < k)
    (h3 : c.space = .hbm ∧ rank c < k) (h4 : e.space = .hbm ∧ rank e < k) :
    Fits k (quaternary (τ := τ) a b c e y f ha hb hc he hd) :=
  fits_of (quaternary_writes ..) hs hy (quaternary_bufs_sub ..) rfl fun V V' h => by
    rw [quaternary_result', quaternary_result', h a h1.1 h1.2, h b h2.1 h2.2, h c h3.1 h3.2, h e h4.1 h4.2]

theorem fits_reshape {he hn hx hd} (hs : y.space = .hbm) (hy : rank y = k)
    (h1 : x.space = .hbm ∧ rank x < k) : Fits k (reshape (τ := τ) (Val := Val) x y he hn hx hd) :=
  fits_of (reshape_writes ..) hs hy (reshape_bufs_sub ..) rfl fun V V' h => by
    rw [reshape_result', reshape_result', h x h1.1 h1.2]

variable {W : Valuation τ sig Val}

/-- One operation's equation, at the buffer it writes. -/
theorem Holds.at {op : HloOp τ sig Val} (h : Holds W (hlo rfl op fun _ => .ret ⟨⟩ : Prog (TpuEff nD τ sig Val Λ .tc) PUnit))
    (hw : op.writes = {Proc.devRef .tc y}) : W (Proc.devRef .tc y) = op.result W (Proc.devRef .tc y) :=
  h.1 y (by rw [hw]; exact Finset.mem_singleton_self _)

theorem Holds.nullary {v : y.ty.Contents Val} {hd}
    (h : Holds W (hlo rfl (nullary y v hd) fun _ => .ret ⟨⟩ : Prog (TpuEff nD τ sig Val Λ .tc) PUnit)) :
    W (Proc.devRef .tc y) = v := by
  rw [h.at (nullary_writes ..), nullary_result']

theorem Holds.unary {f : x.ty.Contents Val → y.ty.Contents Val} {hx hd}
    (h : Holds W (hlo rfl (unary x y f hx hd) fun _ => .ret ⟨⟩ : Prog (TpuEff nD τ sig Val Λ .tc) PUnit)) :
    W (Proc.devRef .tc y) = f (W (Proc.devRef .tc x)) := by
  rw [h.at (unary_writes ..), unary_result']

theorem Holds.binary {f : a.ty.Contents Val → b.ty.Contents Val → y.ty.Contents Val} {ha hb hd}
    (h : Holds W (hlo rfl (binary a b y f ha hb hd) fun _ => .ret ⟨⟩ : Prog (TpuEff nD τ sig Val Λ .tc) PUnit)) :
    W (Proc.devRef .tc y) = f (W (Proc.devRef .tc a)) (W (Proc.devRef .tc b)) := by
  rw [h.at (binary_writes ..), binary_result']

theorem Holds.reshape {he hn hx hd}
    (h : Holds W (hlo rfl (reshape x y he hn hx hd) fun _ => .ret ⟨⟩ : Prog (TpuEff nD τ sig Val Λ .tc) PUnit)) :
    W (Proc.devRef .tc y) = fun i => he ▸ shapeCast y.ty.shape (W (Proc.devRef .tc x)) hn i := by
  rw [h.at (reshape_writes ..), reshape_result']

variable {Tx Ta Tb Tc Te Ty : BufTy}

/-- What a typed reference's buffer holds, at the value's type. -/
def val (W : Valuation τ sig Val) (x : TRef sig Tx) : Tx.Contents Val := x.ofBuf (W (Proc.devRef .tc x.ref))

theorem val_of {x : TRef sig Tx} {v : Tx.Contents Val} (h : W (Proc.devRef .tc x.ref) = x.toBuf v) : val W x = v := by
  unfold val; rw [h]; simp [TRef.ofBuf, TRef.toBuf]

theorem Holds.tnullary {y : TRef sig Ty} {v : Ty.Contents Val}
    (h : Holds W (hlo rfl (TRef.nullary y v) fun _ => .ret ⟨⟩ : Prog (TpuEff nD τ sig Val Λ .tc) PUnit)) :
    val W y = v := val_of h.nullary

theorem Holds.tunary {x : TRef sig Tx} {y : TRef sig Ty} {f : Tx.Contents Val → Ty.Contents Val}
    (h : Holds W (hlo rfl (TRef.unary x y f) fun _ => .ret ⟨⟩ : Prog (TpuEff nD τ sig Val Λ .tc) PUnit)) :
    val W y = f (val W x) := val_of h.unary

theorem Holds.tbinary {a : TRef sig Ta} {b : TRef sig Tb} {y : TRef sig Ty}
    {f : Ta.Contents Val → Tb.Contents Val → Ty.Contents Val}
    (h : Holds W (hlo rfl (TRef.binary a b y f) fun _ => .ret ⟨⟩ : Prog (TpuEff nD τ sig Val Λ .tc) PUnit)) :
    val W y = f (val W a) (val W b) := val_of h.binary

theorem Holds.tternary {c : TRef sig Tc} {a : TRef sig Ta} {b : TRef sig Tb} {y : TRef sig Ty}
    {f : Tc.Contents Val → Ta.Contents Val → Tb.Contents Val → Ty.Contents Val}
    (h : Holds W (hlo rfl (TRef.ternary c a b y f) fun _ => .ret ⟨⟩ : Prog (TpuEff nD τ sig Val Λ .tc) PUnit)) :
    val W y = f (val W c) (val W a) (val W b) := val_of (by rw [h.at (ternary_writes ..), ternary_result']; rfl)

theorem Holds.tquaternary {a : TRef sig Ta} {b : TRef sig Tb} {c : TRef sig Tc} {e : TRef sig Te} {y : TRef sig Ty}
    {f : Ta.Contents Val → Tb.Contents Val → Tc.Contents Val → Te.Contents Val → Ty.Contents Val}
    (h : Holds W (hlo rfl (TRef.quaternary a b c e y f) fun _ => .ret ⟨⟩ : Prog (TpuEff nD τ sig Val Λ .tc) PUnit)) :
    val W y = f (val W a) (val W b) (val W c) (val W e) :=
  val_of (by rw [h.at (quaternary_writes ..), quaternary_result']; rfl)

theorem Holds.treshape {x : TRef sig Tx} {y : TRef sig Ty} {he : Tx.elt = Ty.elt} {hn : Tx.shape.ShapeCasts Ty.shape}
    (h : Holds W (hlo rfl (TRef.reshape x y he hn) fun _ => .ret ⟨⟩ : Prog (TpuEff nD τ sig Val Λ .tc) PUnit)) :
    val W y = fun i => he ▸ shapeCast Ty.shape (val W x) hn i := by
  obtain ⟨xr, hx, dx, ux⟩ := x
  obtain ⟨yr, hy, dy, uy⟩ := y
  subst hx hy
  exact h.reshape

end Ops

end Cert.Straight
-- ==== Proof.RefRun.lean ====
/- The reference's program is a straight line of operations, each writing the next buffer: its run. -/
module

public import proofs.«01_k».proof.Proof.Line
public import proofs.«01_k».proof.Proof.Gen.ReferenceIdeal

@[expose] public section

noncomputable section

namespace Cert.ReferenceIdeal.Run

open Idealize.ShloMosaic Idealize.ShloMosaic.TcCoe Idealize.ShloMosaic.StableHlo Idealize.SL.Sem
open Cert.ReferenceIdeal Cert.Straight

variable {F : FTy → Type} [FloatOps F] [Facts]

/-- The buffers each called function writes, one per operation (the random words' function in four parts). -/
theorem calls_line :
    Line (nD := nD) (fn_log_softmax.body (F := F) (.of main_arg0) main_call0) 2 17
      ∧ Line (nD := nD) (fn_take_along_axis.body (F := F) (.of main_v0) (.of main_arg1) main_call1) 17 39
      ∧ Line (nD := nD) (fn_argmax.body (F := F) (.of main_v14) main_call2) 56 61
      ∧ Line (nD := nD) (fn_argmax.body (F := F) (.of main_v58) main_call4) 337 342
      ∧ Line (nD := nD) (fn_threefry2x32.body_part0 (F := F) (.of main_v25) (.of main_v27) (.of main_v38) (.of main_v37) main_call3) 90 150
      ∧ Line (nD := nD) (fn_threefry2x32.body_part1 (F := F) (.of main_v25) (.of main_v27) (.of main_v38) (.of main_v37) main_call3) 150 210
      ∧ Line (nD := nD) (fn_threefry2x32.body_part2 (F := F) (.of main_v25) (.of main_v27) (.of main_v38) (.of main_v37) main_call3) 210 270
      ∧ Line (nD := nD) (fn_threefry2x32.body_part3 (F := F) (.of main_v25) (.of main_v27) (.of main_v38) (.of main_v37) main_call3) 270 312 := by
  unfold fn_log_softmax.body fn_take_along_axis.body fn_argmax.body fn_threefry2x32.body_part0
    fn_threefry2x32.body_part1 fn_threefry2x32.body_part2 fn_threefry2x32.body_part3
  refine ⟨?_, ?_, ?_, ?_, ?_, ?_, ?_, ?_⟩
  repeat' first
    | exact Line.nil _
    | refine Line.cons (fits_nullary rfl rfl) ?_
    | refine Line.cons (fits_unary rfl rfl ⟨rfl, by decide⟩) ?_
    | refine Line.cons (fits_binary rfl rfl ⟨rfl, by decide⟩ ⟨rfl, by decide⟩) ?_
    | refine Line.cons (fits_ternary rfl rfl ⟨rfl, by decide⟩ ⟨rfl, by decide⟩ ⟨rfl, by decide⟩) ?_
    | refine Line.cons (fits_quaternary rfl rfl ⟨rfl, by decide⟩ ⟨rfl, by decide⟩ ⟨rfl, by decide⟩ ⟨rfl, by decide⟩) ?_
    | refine Line.cons (fits_reshape rfl rfl ⟨rfl, by decide⟩) ?_

/-- The reference's program writes the buffers numbered 2 to 342, one operation each. -/
theorem main_line (d : Dev nD) : Line (main (F := F) d) 2 343 := by
  obtain ⟨softmax, take, mode, sample, t0, t1, t2, t3⟩ := calls_line (F := F)
  have threefry : Line (nD := nD) (fn_threefry2x32.body (F := F) (.of main_v25) (.of main_v27) (.of main_v38) (.of main_v37) main_call3) 90 312 :=
    t0.bind (t1.bind (t2.bind t3))
  have h1 : Line (main_part1 (F := F) d) 322 343 := by
    unfold main_part1
    repeat' first
      | refine Line.bind sample ?_
      | exact Line.nil _
      | refine Line.cons (fits_nullary rfl rfl) ?_
      | refine Line.cons (fits_unary rfl rfl ⟨rfl, by decide⟩) ?_
      | refine Line.cons (fits_binary rfl rfl ⟨rfl, by decide⟩ ⟨rfl, by decide⟩) ?_
      | refine Line.cons (fits_ternary rfl rfl ⟨rfl, by decide⟩ ⟨rfl, by decide⟩ ⟨rfl, by decide⟩) ?_
      | refine Line.cons (fits_quaternary rfl rfl ⟨rfl, by decide⟩ ⟨rfl, by decide⟩ ⟨rfl, by decide⟩ ⟨rfl, by decide⟩) ?_
      | refine Line.cons (fits_reshape rfl rfl ⟨rfl, by decide⟩) ?_
  have h0 : Line (main_part0 (F := F) d) 2 322 := by
    unfold main_part0
    repeat' first
      | refine Line.bind softmax ?_
      | refine Line.bind take ?_
      | refine Line.bind mode ?_
      | refine Line.bind threefry ?_
      | exact Line.nil _
      | refine Line.cons (fits_nullary rfl rfl) ?_
      | refine Line.cons (fits_unary rfl rfl ⟨rfl, by decide⟩) ?_
      | refine Line.cons (fits_binary rfl rfl ⟨rfl, by decide⟩ ⟨rfl, by decide⟩) ?_
      | refine Line.cons (fits_ternary rfl rfl ⟨rfl, by decide⟩ ⟨rfl, by decide⟩ ⟨rfl, by decide⟩) ?_
      | refine Line.cons (fits_quaternary rfl rfl ⟨rfl, by decide⟩ ⟨rfl, by decide⟩ ⟨rfl, by decide⟩ ⟨rfl, by decide⟩) ?_
      | refine Line.cons (fits_reshape rfl rfl ⟨rfl, by decide⟩) ?_
  exact h0.bind h1

/-- The reference's run: no counter is raised, the arguments keep their contents, and every operation's equation
    holds of what the buffers hold. -/
theorem run (m : (ℓ : Loc nD τ sig) → Buf (Elt F) ℓ) (g : Dev nD → PrngReg) :
    θ_run (defs (F := F)) (onTc (τ := τ) (main (F := F))) ⟨m, fun _ => 0, g⟩ fun r =>
      r.2.sem = (fun _ => 0) ∧ ∀ d : Dev nD, ∃ W : Valuation τ sig (Elt F), Holds W (main (F := F) d) ∧
        (∀ b : Ref sig .tc, r.2.mem ((d.tc : Thread nD τ).loc b) = W (Proc.devRef .tc b)) ∧
        ∀ b : Ref sig .tc, b.space = .hbm → rank b < 2 → W (Proc.devRef .tc b) = m ((d.tc : Thread nD τ).loc b) :=
  run_line defs main main_line (by decide) (by decide) rfl m g

end Cert.ReferenceIdeal.Run
-- ==== Proof.Frames.lean ====
/-
  The kernel, its ideal reading and the reference end, leave their arguments and put every counter back at zero.
-/
module

public import proofs.«01_k».proof.Proof.KernelRun
public import proofs.«01_k».proof.Proof.Gen.Kernel
public import proofs.«01_k».proof.Proof.RefRun
public import Idealize.ShloMosaic.PureOps.BitExact
public import Idealize.ShloMosaic.PureOps.Ideal
public import Idealize.ShloMosaic.Lib.Tactic.ProgEq

@[expose] public section

set_option maxRecDepth 65536

noncomputable section

namespace Cert.Proof

open Idealize.ShloMosaic Idealize.ShloMosaic.TcCoe Idealize.SL.Sem
open scoped Idealize.ShloMosaic.ProgEq

/-- The idealized kernel's frame. -/
theorem frame_ideal (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Block.run m g)

/-- The kernel's frame: it is the same program, read at words. -/
theorem frame_kernel (m : (ℓ : Loc Cert.Kernel.nD Cert.Kernel.τ Cert.Kernel.sig) → Buf (Elt Bits) ℓ) (g : Dev Cert.Kernel.nD → PrngReg) :
    θ_run Cert.Kernel.defs (onTc (τ := Cert.Kernel.τ) (Cert.Kernel.main (F := Bits))) ⟨m, fun _ => 0, g⟩ (fun r =>
      (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  have h : θ_run Cert.KernelIdeal.defs (onTc (τ := Cert.KernelIdeal.τ) (Cert.KernelIdeal.main (F := Bits))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => ⟨(h.1 c).1, (h.1 c).2.1⟩, h.2⟩) (Cert.KernelIdeal.Block.run m g)
  refine Eq.mp ?_ h
  sl_kernel_rfl

/-- The reference's frame. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run Cert.ReferenceIdeal.defs (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨fun c => by
    obtain ⟨W, -, hW, hA⟩ := h.2 c
    exact ⟨(hW _).trans (hA _ rfl (by decide)), (hW _).trans (hA _ rfl (by decide))⟩, h.1⟩) (Cert.ReferenceIdeal.Run.run m g)

end Cert.Proof

end
-- ==== Proof.FirstMax.lean ====
/-
  The first place at which a sequence of extended reals attains its maximum on a range, and how it is put together from two
  adjacent ranges.
-/
module

public import Mathlib.Data.EReal.Basic

@[expose] public section

namespace Cert

/-- On `[a, b)` the greatest value of `y` is `M`, and `I` is the word of the first place that has it. -/
def FirstMax (y : ℕ → EReal) (a b : ℕ) (M : EReal) (I : BitVec 32) : Prop :=
  ∃ k, a ≤ k ∧ k < b ∧ I = BitVec.ofNat 32 k ∧ y k = M ∧ (∀ j, a ≤ j → j < b → y j ≤ M) ∧ ∀ j, a ≤ j → j < k → y j < M

namespace FirstMax

variable {y : ℕ → EReal} {a b c : ℕ} {M N : EReal} {I J : BitVec 32}

/-- No value on the range exceeds the maximum. -/
theorem le (h : FirstMax y a b M I) (j : ℕ) (ha : a ≤ j) (hb : j < b) : y j ≤ M := by
  obtain ⟨k, _, _, _, _, h, _⟩ := h
  exact h j ha hb

/-- The maximum is attained. -/
theorem attained (h : FirstMax y a b M I) : ∃ k, a ≤ k ∧ k < b ∧ y k = M := by
  obtain ⟨k, h1, h2, _, h3, _⟩ := h
  exact ⟨k, h1, h2, h3⟩

/-- Two adjacent ranges: the later place is taken when its value is strictly greater. -/
theorem join (h : FirstMax y a b M I) (g : FirstMax y b c N J) : FirstMax y a c (max M N) (if M < N then J else I) := by
  obtain ⟨k, ka, kb, rfl, rfl, hk, hk'⟩ := h
  obtain ⟨l, lb, lc, rfl, rfl, hl, hl'⟩ := g
  by_cases hlt : y k < y l
  · rw [if_pos hlt, max_eq_right hlt.le]
    refine ⟨l, by omega, lc, rfl, rfl, fun j ja jc => ?_, fun j ja jl => ?_⟩
    · by_cases jb : j < b
      · exact (hk j ja jb).trans hlt.le
      · exact hl j (by omega) jc
    · by_cases jb : j < b
      · exact (hk j ja jb).trans_lt hlt
      · exact hl' j (by omega) jl
  · rw [if_neg hlt, max_eq_left (not_lt.mp hlt)]
    refine ⟨k, ka, by omega, rfl, rfl, fun j ja jc => ?_, hk'⟩
    by_cases jb : j < b
    · exact hk j ja jb
    · exact (hl j (by omega) jc).trans (not_lt.mp hlt)

/-- There is one maximum and one first place. -/
theorem unique (h : FirstMax y a b M I) (g : FirstMax y a b N J) : M = N ∧ I = J := by
  obtain ⟨k, ka, kb, rfl, rfl, hk, hk'⟩ := h
  obtain ⟨l, la, lb, rfl, rfl, hl, hl'⟩ := g
  have e : k = l := by
    rcases lt_trichotomy k l with h | h | h
    · exact absurd (hk l la lb) (not_le.mpr (hl' k ka h))
    · exact h
    · exact absurd (hl k ka kb) (not_le.mpr (hk' l la h))
  subst e
  exact ⟨rfl, rfl⟩

/-- Another sequence that rises exactly where this one does has its maximum first at the same place. -/
theorem mono {z : ℕ → EReal} (h : FirstMax y a b M I) (hlt : ∀ i j, i < b → j < b → y i < y j → z i < z j)
    (hle : ∀ i j, i < b → j < b → y i ≤ y j → z i ≤ z j) : ∃ N, FirstMax z a b N I := by
  obtain ⟨k, ka, kb, rfl, rfl, hk, hk'⟩ := h
  exact ⟨z k, k, ka, kb, rfl, rfl, fun j ja jb => hle j k jb kb (hk j ja jb), fun j ja jk => hlt j k (jk.trans kb) kb (hk' j ja jk)⟩

/-- A range may be cut where the rest is `-∞`. -/
theorem trim (h : FirstMax y a c M I) (hab : a < b) (hbc : b ≤ c) (hy : ∀ j, b ≤ j → y j = ⊥) : FirstMax y a b M I := by
  obtain ⟨k, ka, kc, rfl, rfl, hk, hk'⟩ := h
  have kb : k < b := by
    by_contra hkb
    have := hk' a le_rfl (by omega)
    rw [hy k (by omega)] at this
    exact not_lt_bot this
  exact ⟨k, ka, kb, rfl, rfl, fun j ja jb => hk j ja (by omega), hk'⟩

/-- The same values on the range. -/
theorem congr {z : ℕ → EReal} (h : FirstMax y a b M I) (e : ∀ j, a ≤ j → j < b → y j = z j) : FirstMax z a b M I := by
  obtain ⟨k, ka, kb, rfl, hM, hk, hk'⟩ := h
  exact ⟨k, ka, kb, rfl, (e k ka kb).symm.trans hM, fun j ja jb => (e j ja jb) ▸ hk j ja jb,
    fun j ja jk => (e j ja (jk.trans kb)) ▸ hk' j ja jk⟩

end FirstMax

end Cert

end
-- ==== Proof.KernelBlock.lean ====
/-
  What one block of the kernel computes, at its rows and columns, over the extended reals.
-/
module

public import proofs.«01_k».proof.Proof.KernelStep
public import proofs.«01_k».proof.Proof.FirstMax
public import Idealize.ShloMosaic.Lib.Pointwise
public import Idealize.ShloMosaic.Lib.Tactic.WordOmega
public import Idealize.ShloMosaic.PureOps.Ideal

@[expose] public section

set_option maxRecDepth 16384

noncomputable section

namespace Cert.KernelIdeal.Block

open Cert.KernelIdeal Cert.KernelIdeal.Gen
open Idealize.ShloMosaic

/-- The pattern of `-∞`. -/
theorem ofBits_negInf : Ideal.ofBits .f32 0xFF800000#32 = ⊥ := by
  simp [Ideal.ofBits, Ideal.ieee]

/-- A choice on a decided bit. -/
theorem select_decide {α : Type} (p : Prop) [Decidable p] (a b : α) :
    Scalar.select (BitVec.ofBool (decide p)) a b = if p then a else b := by
  by_cases h : p <;> simp [h, Scalar.select]

/-- Equality of words as a bit. -/
theorem cmpi_eq (x y : BitVec 32) : IntOp.cmpi .eq x y = BitVec.ofBool (decide (x = y)) := by
  rw [IntOp.cmpi, beq_eq_decide]

/-- Equality of extended reals as a bit. -/
theorem cmpf_oeq (x y : Ideal .f32) : FloatOps.cmpf .oeq x y = BitVec.ofBool (decide ((x : EReal) = y)) := rfl

/-- Strict order of extended reals as a bit. -/
theorem cmpf_ogt (x y : Ideal .f32) : FloatOps.cmpf .ogt x y = BitVec.ofBool (decide ((y : EReal) < x)) := rfl

/-- The smaller of two words read signed. -/
theorem toInt_minsi (x y : BitVec 32) : (IntOp.minsi x y).toInt = min x.toInt y.toInt := by
  unfold IntOp.minsi
  by_cases h : x.slt y = true
  · rw [if_pos h, min_eq_left (by simpa [BitVec.slt] using (by simpa [BitVec.slt] using h : x.toInt < y.toInt).le)]
  · rw [if_neg h, min_eq_right (by simpa [BitVec.slt] using h)]

/-- The least word of a family, when one member is below all the others. -/
theorem fold_minsi_eq {n : ℕ} (b : BitVec 32) (f : Fin n → BitVec 32) (k : Fin n) (hb : (f k).toInt ≤ b.toInt)
    (hk : ∀ j, (f k).toInt ≤ (f j).toInt) : Finset.univ.fold IntOp.minsi b f = f k := by
  have e : Finset.univ.fold min b.toInt (fun j => (f j).toInt) = (Finset.univ.fold IntOp.minsi b f).toInt :=
    Finset.fold_hom (op := IntOp.minsi) (op' := min) (m := BitVec.toInt) toInt_minsi
  apply BitVec.toInt_inj.mp
  rw [← e]
  apply le_antisymm
  · exact (Finset.fold_min_le _).mpr (Or.inr ⟨k, Finset.mem_univ _, le_rfl⟩)
  · exact (Finset.le_fold_min _).mpr ⟨hb, fun j _ => hk j⟩

/-- The greatest value of a row of a block, and the word of its first place, as the kernel takes them. -/
theorem firstMax_row {n : ℕ} (hn : 0 < n) (y : ℕ → EReal) (a : ℕ) (ha : a + n < 2 ^ 31) (z : Fin n → EReal)
    (hz : ∀ k : Fin n, z k = y (a + k.val)) (M : EReal) (hM : M = Finset.univ.fold max ⊥ z) :
    FirstMax y a (a + n) M (Finset.univ.fold IntOp.minsi 2147483647#32
      (fun k : Fin n => if z k = M then BitVec.ofNat 32 (a + k.val) else 2147483647#32)) := by
  have hle : ∀ k, z k ≤ M := fun k => hM ▸ (Finset.le_fold_max _).mpr (Or.inr ⟨k, Finset.mem_univ _, le_rfl⟩)
  have hex : ∃ k, ∃ h : k < n, z ⟨k, h⟩ = M := by
    obtain ⟨k, -, hk⟩ := Finset.exists_max_image Finset.univ z ⟨⟨0, hn⟩, Finset.mem_univ _⟩
    refine ⟨k.val, k.isLt, le_antisymm (hle k) ?_⟩
    rw [hM]
    exact (Finset.fold_max_le _).mpr ⟨bot_le, fun j hj => hk j hj⟩
  classical
  obtain ⟨hk, hkM⟩ := Nat.find_spec hex
  have hmin := fun j (hj : j < Nat.find hex) => Nat.find_min hex hj
  generalize Nat.find hex = k at hk hkM hmin
  have hI : ∀ j : ℕ, j < 2 ^ 31 → (BitVec.ofNat 32 j).toInt = j := fun j hj => by
    rw [BitVec.toInt_eq_toNat_of_lt] <;> rw [BitVec.toNat_ofNat, Nat.mod_eq_of_lt] <;> omega
  have hmax : (2147483647#32 : BitVec 32).toInt = 2147483647 := by decide
  refine ⟨a + k, by omega, by omega, ?_, ?_, fun j ja jb => ?_, fun j ja jk => ?_⟩
  · rw [fold_minsi_eq _ _ ⟨k, hk⟩, if_pos hkM]
    · rw [if_pos hkM, hI _ (by simp only; omega), hmax]; simp only; omega
    · intro j
      rw [if_pos hkM, hI _ (by simp only; omega)]
      split
      · rename_i hj
        rw [hI _ (by omega)]
        have : ¬ j.val < k := fun h => hmin _ h ⟨j.isLt, hj⟩
        simp only; omega
      · rw [hmax]; simp only; omega
  · rw [← hz ⟨k, hk⟩, hkM]
  · have := hle ⟨j - a, by omega⟩
    rw [hz] at this
    simpa only [Nat.add_sub_cancel' ja] using this
  · have h1 := hle ⟨j - a, by omega⟩
    have h2 : z ⟨j - a, by omega⟩ ≠ M := fun h => hmin (j - a) (by omega) ⟨by omega, h⟩
    have := lt_of_le_of_ne h1 h2
    rw [hz] at this
    simpa only [Nat.add_sub_cancel' ja] using this

/-- The column words of the block at point `i`. -/
theorem col_at (i : grid0.Coords) (r : Fin 128) (k : Fin 2048) :
    k0_pay16 i (ix2 r k) = BitVec.ofNat 32 (2048 * (i 0).val + k.val) := by
  pointwise [k0_pay16]
  rw [IntOp.addi, Scalar.muli, IntOp.muli, ← BitVec.ofNat_mul, ← BitVec.ofNat_add]
  congr 1; omega

/-- The grid has 49 points. -/
theorem coord_lt (i : grid0.Coords) : (i 0).val < 49 := (i 0).isLt

/-- Comparing two small naturals as words. -/
theorem slt_ofNat (a b : ℕ) (ha : a < 2 ^ 31) (hb : b < 2 ^ 31) :
    IntOp.cmpi .slt (BitVec.ofNat 32 a) (BitVec.ofNat 32 b) = BitVec.ofBool (decide (a < b)) := by
  have hI : ∀ j : ℕ, j < 2 ^ 31 → (BitVec.ofNat 32 j).toInt = j := fun j hj => by
    rw [BitVec.toInt_eq_toNat_of_lt] <;> rw [BitVec.toNat_ofNat, Nat.mod_eq_of_lt] <;> omega
  simp only [IntOp.cmpi, BitVec.slt, hI a ha, hI b hb, Nat.cast_lt]

/-- Which columns of the block lie inside the vocabulary. -/
theorem valid_at (i : grid0.Coords) (r : Fin 128) (k : Fin 2048) :
    k0_pay17 i (ix2 r k) = BitVec.ofBool (decide (2048 * (i 0).val + k.val < 100000)) := by
  have := coord_lt i
  unfold k0_pay17
  pointwise [col_at]
  exact slt_ofNat _ 100000 (by omega) (by omega)

/-- The block with `-∞` outside the vocabulary. -/
theorem masked_at (i : grid0.Coords) (x : Vec Ideal S128x2048 .f32) (r : Fin 128) (k : Fin 2048) :
    k0_pay18 i x (ix2 r k) = if 2048 * (i 0).val + k.val < 100000 then x (ix2 r k) else (⊥ : EReal) := by
  unfold k0_pay18
  pointwise [valid_at, ofBits_negInf, select_decide]

/-- A row's greatest logit in the block. -/
theorem max_at (i : grid0.Coords) (x : Vec Ideal S128x2048 .f32) (r : Fin 128) :
    k0_pay19 i x (ix2 r 0) = Finset.univ.fold max (⊥ : EReal) (fun k => k0_pay18 i x (ix2 r k)) := by
  unfold k0_pay19
  pointwise [ofBits_negInf]

/-- The first column at which the rows of `z` and `w` agree. -/
theorem col1_at (i : grid0.Coords) (z w : FVec Ideal S128x2048 .f32) (r : Fin 128) :
    k0_pay1 (k0_pay16 i) z w (ix2 r 0) = Finset.univ.fold IntOp.minsi 2147483647#32
      (fun k => if (z (ix2 r k) : EReal) = w (ix2 r k) then BitVec.ofNat 32 (2048 * (i 0).val + k.val) else 2147483647#32) := by
  unfold k0_pay1
  pointwise [col_at, cmpf_oeq, select_decide]

/-- A row's sum of exponentials below its greatest logit. -/
theorem sum_at (i : grid0.Coords) (x : Vec Ideal S128x2048 .f32) (r : Fin 128) :
    k0_pay21 i x (ix2 r 0) = ∑ k : Fin 2048, if 2048 * (i 0).val + k.val < 100000
      then Ideal.exp (x (ix2 r k) - k0_pay19 i x (ix2 r 0)) else (0 : EReal) := by
  unfold k0_pay21
  pointwise [valid_at, select_decide]

/-- The logit at a row's action, if the action lies in the block. -/
theorem pick_at (i : grid0.Coords) (x : Vec Ideal S128x2048 .f32) (a : Vec Ideal S128x1 .i32) (r : Fin 128) :
    k0_pay22 i x a (ix2 r 0) = ∑ k : Fin 2048, if BitVec.ofNat 32 (2048 * (i 0).val + k.val) = a (ix2 r 0)
      then x (ix2 r k) else (0 : EReal) := by
  unfold k0_pay22
  pointwise [col_at, cmpi_eq, select_decide]

end Cert.KernelIdeal.Block

end
-- ==== Proof.Threefry.lean ====
/-
  The generator's twenty rounds on one pair of words, and the perturbation made of the result.
-/
module

public import Idealize.ShloMosaic.Lib.Pointwise
public import Idealize.ShloMosaic.PureOps.Ideal

@[expose] public section

noncomputable section

namespace Cert.Draw

open Idealize.ShloMosaic

/-- One round: the second word is added to the first, rotated by `r` (`s` is `32 - r`) and combined with that sum. -/
def rnd (r s : BitVec 32) (p : BitVec 32 × BitVec 32) : BitVec 32 × BitVec 32 :=
  (p.1 + p.2, ((p.2 <<< r) ||| (p.2 >>> s)) ^^^ (p.1 + p.2))

/-- Adding a pair of words of the key's schedule. -/
def key (a b : BitVec 32) (p : BitVec 32 × BitVec 32) : BitVec 32 × BitVec 32 := (p.1 + a, p.2 + b)

/-- Four rounds of the first kind. -/
def quadA (p : BitVec 32 × BitVec 32) : BitVec 32 × BitVec 32 :=
  rnd 6#32 26#32 (rnd 26#32 6#32 (rnd 15#32 17#32 (rnd 13#32 19#32 p)))

/-- Four rounds of the second kind. -/
def quadB (p : BitVec 32 × BitVec 32) : BitVec 32 × BitVec 32 :=
  rnd 24#32 8#32 (rnd 16#32 16#32 (rnd 29#32 3#32 (rnd 17#32 15#32 p)))

/-- The first half of the twenty rounds and a little more, at the counter `b`. -/
def early (b : BitVec 32) : BitVec 32 × BitVec 32 :=
  key 0#32 45#32 (quadA (key 466689008#32 2#32 (quadB (key 42#32 466689009#32 (quadA (0#32, b + 42#32))))))

/-- The rest. -/
def late (p : BitVec 32 × BitVec 32) : BitVec 32 × BitVec 32 :=
  key 466689008#32 5#32 (quadA (key 42#32 466689012#32 (quadB p)))

/-- The word drawn at the counter `b` under the key `(0, 42)`. -/
def word (b : BitVec 32) : BitVec 32 := (late (early b)).1 ^^^ (late (early b)).2

/-- The uniform number made of a word, in `[tiny, 1)`. -/
def unit (w : BitVec 32) : EReal :=
  max (Ideal.ofBits .f32 0x00800000#32)
    ((Ideal.ofBits .f32 (w >>> 9#32 ||| 0x3F800000#32) - 1) * 1 + Ideal.ofBits .f32 0x00800000#32)

/-- The perturbation at the counter `b`. -/
def gumbel (b : BitVec 32) : EReal := -Ideal.log (-Ideal.log (unit (word b)))

/-- A shift by less than the width, on any unit. -/
theorem shli_lt (u : ArithUnit) (x y : BitVec 32) (h : y.toNat < 32) : IntOp.shli u x y = x <<< y := if_pos h

theorem shrui_lt (u : ArithUnit) (x y : BitVec 32) (h : y.toNat < 32) : IntOp.shrui u x y = x >>> y := if_pos h

end Cert.Draw

end
-- ==== Proof.KernelDraw.lean ====
/-
  The kernel's perturbed logits, at their rows and columns: its words are the generator's at the counter `100000 * row + column`.
-/
module

public import proofs.«01_k».proof.Proof.KernelBlock
public import proofs.«01_k».proof.Proof.Threefry

@[expose] public section

set_option maxRecDepth 16384

noncomputable section

namespace Cert.KernelIdeal.Block

open Cert.KernelIdeal Cert.KernelIdeal.Gen Cert.Draw
open Idealize.ShloMosaic

/-- A pair of word vectors read at an index. -/
abbrev pair {s : Shape} (a x : IVec s 32) (j : s.Idx) : BitVec 32 × BitVec 32 := (a j, x j)

/-- One round as the kernel writes it. -/
theorem rnd_vec {s : Shape} (a x : IVec s 32) (r t : BitVec 32) (hr : r.toNat < 32) (ht : t.toNat < 32) (j : s.Idx)
    {p : BitVec 32 × BitVec 32} (h : pair a x j = p) :
    pair (addi a x) (xori (ori (shli x (broadcast s r)) (shrui x (broadcast s t))) (addi a x)) j = rnd r t p := by
  subst h
  show (_, IntOp.xori (IntOp.ori (IntOp.shli .vector _ r) (IntOp.shrui .vector _ t)) _) = _
  rw [shli_lt _ _ _ hr, shrui_lt _ _ _ ht]
  rfl

/-- Adding the key's words. -/
theorem key_vec {s : Shape} (a x : IVec s 32) (k l : BitVec 32) (j : s.Idx) {p : BitVec 32 × BitVec 32} (h : pair a x j = p) :
    pair (addi a (broadcast s k)) (addi x (broadcast s l)) j = key k l p := by
  subst h; rfl

/-- From the seventh round to the twelfth. -/
theorem mid_vec (x y u : IVec S128x2048 32) (j : S128x2048.Idx) {p : BitVec 32 × BitVec 32}
    (h : pair y (k0_pay40 x y u k0_pay39) j = p) :
    pair (k0_pay50 x y u k0_pay39) (k0_pay51 x y u k0_pay39) j =
      key 0#32 45#32 (quadA (key 466689008#32 2#32 (rnd 24#32 8#32 p))) := by
  have h8 : pair (addi (k0_pay41 x y u k0_pay39) (broadcast S128x2048 466689008#32)) (k0_pay42 x y u k0_pay39) j = _ :=
    key_vec _ _ 466689008#32 2#32 j (rnd_vec _ _ 24#32 8#32 (by decide) (by decide) j h)
  have h9 : pair (k0_pay43 x y u k0_pay39) (k0_pay44 x y u k0_pay39) j = _ :=
    rnd_vec _ _ 13#32 19#32 (by decide) (by decide) j h8
  have h10 : pair (k0_pay45 x y u k0_pay39) (k0_pay46 x y u k0_pay39) j = _ :=
    rnd_vec _ _ 15#32 17#32 (by decide) (by decide) j h9
  have h11 : pair (k0_pay47 x y u k0_pay39) (k0_pay48 x y u k0_pay39) j = _ :=
    rnd_vec _ _ 26#32 6#32 (by decide) (by decide) j h10
  exact key_vec _ _ 0#32 45#32 j (rnd_vec _ _ 6#32 26#32 (by decide) (by decide) j h11)

/-- The first round: its sum of the zero word and the counter is the counter. -/
theorem one_vec (v : IVec S128x2048 32) (j : S128x2048.Idx) (c : BitVec 32) (hc : v j = c) :
    pair v (k0_pay26 v (shli v (broadcast S128x2048 13#32)) (broadcast S128x2048 19#32)) j = rnd 13#32 19#32 (0#32, c) := by
  subst hc
  have z : ∀ w : BitVec 32, 0#32 + w = w := fun w => BitVec.zero_add w
  rw [rnd, z]
  show (v j, IntOp.xori (IntOp.ori (IntOp.shli .vector (v j) 13#32) (IntOp.shrui .vector (v j) 19#32)) (v j)) = _
  rw [shli_lt _ _ _ (by decide), shrui_lt _ _ _ (by decide)]
  rfl

/-- The first four rounds, the key's words added. -/
theorem quad_vec (v37 v39 v40 : IVec S128x2048 32) (j : S128x2048.Idx) {p : BitVec 32 × BitVec 32}
    (h1 : pair v37 (k0_pay26 v37 v39 v40) j = p) :
    pair (addi (k0_pay31 v37 v39 v40) (broadcast S128x2048 42#32)) (k0_pay32 v37 v39 v40) j =
      key 42#32 466689009#32 (rnd 6#32 26#32 (rnd 26#32 6#32 (rnd 15#32 17#32 p))) := by
  have h2 : pair (k0_pay27 v37 v39 v40) (k0_pay28 v37 v39 v40) j = _ :=
    rnd_vec _ _ 15#32 17#32 (by decide) (by decide) j h1
  have h3 : pair (k0_pay29 v37 v39 v40) (k0_pay30 v37 v39 v40) j = _ :=
    rnd_vec _ _ 26#32 6#32 (by decide) (by decide) j h2
  exact key_vec _ _ 42#32 466689009#32 j (rnd_vec _ _ 6#32 26#32 (by decide) (by decide) j h3)

/-- Three rounds more. -/
theorem three_vec (v37 v39 v40 : IVec S128x2048 32) (j : S128x2048.Idx) {p : BitVec 32 × BitVec 32}
    (h : pair (addi (k0_pay31 v37 v39 v40) (broadcast S128x2048 42#32)) (k0_pay32 v37 v39 v40) j = p) :
    pair (k0_pay37 v37 v39 v40) (k0_pay40 (k0_pay36 v37 v39 v40) (k0_pay37 v37 v39 v40) (k0_pay38 v37 v39 v40) k0_pay39) j =
      rnd 16#32 16#32 (rnd 29#32 3#32 (rnd 17#32 15#32 p)) := by
  have h5 : pair (k0_pay33 v37 v39 v40) (k0_pay34 v37 v39 v40) j = _ :=
    rnd_vec _ _ 17#32 15#32 (by decide) (by decide) j h
  have h6 : pair (k0_pay35 v37 v39 v40) (k0_pay36 v37 v39 v40) j = _ :=
    rnd_vec _ _ 29#32 3#32 (by decide) (by decide) j h5
  exact rnd_vec _ _ 16#32 16#32 (by decide) (by decide) j h6

/-- The words `w0` and `w1` are the state after twelve rounds at the counter `b`. -/
theorem early_vec (i : grid0.Coords) (j : S128x2048.Idx) (b : BitVec 32) (hb : k0_pay23 i j = b + 42#32) :
    pair (w0 i) (w1 i) j = early b := by
  have h1 : pair (k0_pay23 i) (k0_pay26 (k0_pay23 i) (k0_pay24 i) k0_pay25) j = _ := one_vec (k0_pay23 i) j _ hb
  have h := mid_vec _ _ _ j (three_vec _ _ _ j (quad_vec _ _ _ j h1))
  rw [w0, w1, h]
  simp only [early, quadA, quadB]

/-- The kernel's perturbed logits, made of the words drawn. -/
def perturb (v0 : FVec Ideal S128x2048 .f32) (v6 : IVec S128x2048 1) (w : IVec S128x2048 32) : FVec Ideal S128x2048 .f32 :=
  select v6 (addf v0 (subf (broadcast S128x2048 (Scalar.ofBits .f32 0x00000000#32)) (log (subf (broadcast S128x2048 (Scalar.ofBits .f32 0x00000000#32))
    (log (maximumf (broadcast S128x2048 (Scalar.ofBits .f32 0x00800000#32)) (addf (mulf (subf
      (bitcastToFloat .f32 (ori (shrui w (broadcast S128x2048 9#32)) (broadcast S128x2048 1065353216#32)))
      (broadcast S128x2048 (Scalar.ofBits .f32 0x3F800000#32))) (broadcast S128x2048 (Scalar.ofBits .f32 0x3F800000#32)))
      (broadcast S128x2048 (Scalar.ofBits .f32 0x00800000#32))))))))) (broadcast S128x2048 (Scalar.ofBits .f32 0xFF800000#32))

theorem perturb_at (v0 : FVec Ideal S128x2048 .f32) (v6 : IVec S128x2048 1) (w : IVec S128x2048 32) (j : S128x2048.Idx) :
    perturb v0 v6 w j = Scalar.select (v6 j) (v0 j + -Ideal.log (-Ideal.log (unit (w j)))) (⊥ : EReal) := by
  have hs : ∀ w : BitVec 32, IntOp.shrui .vector w 9#32 = w >>> 9#32 := fun w => shrui_lt _ _ _ (by decide)
  have ho : ∀ v w : BitVec 32, IntOp.ori v w = v ||| w := fun _ _ => rfl
  unfold perturb unit
  pointwise [ofBits_negInf, hs, zero_sub, ho]

/-- The last two rounds and the perturbed logit, as functions of the state after eighteen rounds. -/
theorem tail_vec (v0 : FVec Ideal S128x2048 .f32) (v6 : IVec S128x2048 1) (c y : IVec S128x2048 32) (j : S128x2048.Idx) :
    ∃ d z : IVec S128x2048 32, pair d z j = key 466689008#32 5#32 (rnd 6#32 26#32 (rnd 26#32 6#32 (pair c y j)))
      ∧ k0_pay64 v0 v6 c y = perturb v0 v6 (xori d z) := by
  have h7 := key_vec _ _ 466689008#32 5#32 j (rnd_vec _ _ 6#32 26#32 (by decide) (by decide) j
    (rnd_vec c y 26#32 6#32 (by decide) (by decide) j rfl))
  exact ⟨_, _, h7, rfl⟩

/-- The six rounds before them, from the state `early_vec` names. -/
theorem six_vec (a x : IVec S128x2048 32) (j : S128x2048.Idx) {p : BitVec 32 × BitVec 32} (h : pair a x j = p) :
    pair (k0_pay62 a x) (k0_pay63 a x) j = rnd 15#32 17#32 (rnd 13#32 19#32 (key 42#32 466689012#32 (quadB p))) := by
  have h1 : pair (k0_pay52 a x) (k0_pay53 a x) j = _ := rnd_vec a x 17#32 15#32 (by decide) (by decide) j h
  have h2 : pair (k0_pay54 a x) (k0_pay55 a x) j = _ := rnd_vec _ _ 29#32 3#32 (by decide) (by decide) j h1
  have h3 : pair (k0_pay56 a x) (k0_pay57 a x) j = _ := rnd_vec _ _ 16#32 16#32 (by decide) (by decide) j h2
  have h4 : pair (addi (k0_pay58 a x) (broadcast S128x2048 42#32)) (k0_pay59 a x) j = _ :=
    key_vec _ _ 42#32 466689012#32 j (rnd_vec _ _ 24#32 8#32 (by decide) (by decide) j h3)
  have h5 : pair (k0_pay60 a x) (k0_pay61 a x) j = _ := rnd_vec _ _ 13#32 19#32 (by decide) (by decide) j h4
  have h6 : pair (k0_pay62 a x) (k0_pay63 a x) j = _ := rnd_vec _ _ 15#32 17#32 (by decide) (by decide) j h5
  rw [h6, quadB]

/-- The kernel's counter, with the key's second word added. -/
theorem counter_at (i : grid0.Coords) (r : Fin 128) (k : Fin 2048) :
    k0_pay23 i (ix2 r k) = BitVec.ofNat 32 (100000 * r.val + (2048 * (i 0).val + k.val)) + 42#32 := by
  unfold k0_pay23
  pointwise [col_at]
  simp only [IntOp.addi, IntOp.muli, ← BitVec.ofNat_mul, ← BitVec.ofNat_add]
  congr 2; omega

/-- The perturbed logits: -∞ outside the vocabulary. -/
theorem noisy_at (i : grid0.Coords) (x : Vec Ideal S128x2048 .f32) (r : Fin 128) (k : Fin 2048) :
    noisy i x (ix2 r k) = if 2048 * (i 0).val + k.val < 100000
      then x (ix2 r k) + gumbel (BitVec.ofNat 32 (100000 * r.val + (2048 * (i 0).val + k.val))) else (⊥ : EReal) := by
  obtain ⟨d, z, h, hn⟩ := tail_vec x (k0_pay17 i) (k0_pay62 (w0 i) (w1 i)) (k0_pay63 (w0 i) (w1 i)) (ix2 r k)
  rw [six_vec _ _ _ (early_vec i _ _ (counter_at i r k))] at h
  have e : xori d z (ix2 r k) = word (BitVec.ofNat 32 (100000 * r.val + (2048 * (i 0).val + k.val))) := by
    rw [word, late, quadA, ← h]; rfl
  rw [noisy, hn, perturb_at, e, valid_at, select_decide, gumbel]

/-- A row's greatest perturbed logit in the block. -/
theorem noisyMax_at (i : grid0.Coords) (x : Vec Ideal S128x2048 .f32) (r : Fin 128) :
    noisyMax i x (ix2 r 0) = Finset.univ.fold max (⊥ : EReal) (fun k => noisy i x (ix2 r k)) := by
  have e : noisyMax i x = shapeCast S128x1 (multiReduction .maximumf [1] S128 (noisy i x) 0xFF800000#32 reduces_S128x2048_S128 (.inl rfl) rfl)
      shapeCasts_S128_S128x1 := rfl
  rw [e]
  generalize noisy i x = z
  pointwise [ofBits_negInf]

/-- The same along the row. -/
theorem noisyMaxRow_at (i : grid0.Coords) (x : Vec Ideal S128x2048 .f32) (r : Fin 128) (k : Fin 2048) :
    noisyMaxRow i x (ix2 r k) = noisyMax i x (ix2 r 0) := by
  have e : noisyMaxRow i x = broadcastTo S128x2048 (noisyMax i x) broadcasts_S128x1_S128x2048 := rfl
  rw [e]
  generalize noisyMax i x = z
  pointwise

/-- A row of a sequence of blocks: the block at point `i` holds `y` where `y` is inside the vocabulary, and `-∞` elsewhere is
    what the kernel takes; its greatest logit and first column. -/
theorem firstMax_block (i : grid0.Coords) (x : Vec Ideal S128x2048 .f32) (r : Fin 128) (y : ℕ → EReal)
    (hy : ∀ k : Fin 2048, 2048 * (i 0).val + k.val < 100000 → x (ix2 r k) = y (2048 * (i 0).val + k.val))
    (hb : ∀ n, 100000 ≤ n → y n = ⊥) :
    FirstMax y (2048 * (i 0).val) (2048 * (i 0).val + 2048) (k0_pay19 i x (ix2 r 0)) (k0_pay20 i x (ix2 r 0)) := by
  have := coord_lt i
  have e : k0_pay20 i x = k0_pay1 (k0_pay16 i) (k0_pay18 i x) (broadcastTo S128x2048 (k0_pay19 i x) broadcasts_S128x1_S128x2048) := rfl
  have hw : ∀ k : Fin 2048, broadcastTo S128x2048 (k0_pay19 i x) broadcasts_S128x1_S128x2048 (ix2 r k) = k0_pay19 i x (ix2 r 0) := fun k => by
    generalize k0_pay19 i x = z
    pointwise
  rw [e, col1_at]
  simp only [hw]
  refine firstMax_row (by omega) y _ (by omega) _ (fun k => ?_) _ (max_at i x r)
  rw [masked_at]
  split
  · exact hy k ‹_›
  · exact (hb _ (by omega)).symm

/-- The same of the perturbed logits. -/
theorem firstMax_noisy (i : grid0.Coords) (x : Vec Ideal S128x2048 .f32) (r : Fin 128) (y : ℕ → EReal)
    (hy : ∀ k : Fin 2048, 2048 * (i 0).val + k.val < 100000 →
      x (ix2 r k) + gumbel (BitVec.ofNat 32 (100000 * r.val + (2048 * (i 0).val + k.val))) = y (2048 * (i 0).val + k.val))
    (hb : ∀ n, 100000 ≤ n → y n = ⊥) :
    FirstMax y (2048 * (i 0).val) (2048 * (i 0).val + 2048) (noisyMax i x (ix2 r 0))
      (k0_pay1 (k0_pay16 i) (noisy i x) (noisyMaxRow i x) (ix2 r 0)) := by
  have := coord_lt i
  rw [col1_at]
  simp only [noisyMaxRow_at]
  refine firstMax_row (by omega) y _ (by omega) _ (fun k => ?_) _ (noisyMax_at i x r)
  rw [noisy_at]
  split
  · exact hy k ‹_›
  · exact (hb _ (by omega)).symm

end Cert.KernelIdeal.Block

end
-- ==== Proof.ExpSum.lean ====
/-
  Sums of exponentials below a bound, over the extended reals, and how a sum is carried to a greater bound.
-/
module

public import Idealize.ShloMosaic.PureOps.Ideal

@[expose] public section

noncomputable section

namespace Cert

open Idealize.ShloMosaic

/-- An exponential is not negative. -/
theorem exp_nonneg (x : EReal) : 0 ≤ Ideal.exp x := by
  induction x with
  | bot => exact le_rfl
  | top => exact le_top
  | coe r => exact EReal.coe_nonneg.mpr (Real.exp_pos r).le

/-- An exponential below a bound, carried to a greater one. -/
theorem exp_shift {x m M : EReal} (h : x ≤ m) (h' : m ≤ M) (hM : M < ⊤) :
    Ideal.exp (x - m) * Ideal.exp (m - M) = Ideal.exp (x - M) := by
  induction x with
  | bot =>
    simp only [EReal.bot_sub]
    exact zero_mul _
  | top => exact absurd (h.trans h') (not_le.mpr hM)
  | coe x =>
    induction m with
    | bot => exact absurd h (not_le.mpr (EReal.bot_lt_coe x))
    | top => exact absurd h' (not_le.mpr hM)
    | coe m =>
      induction M with
      | bot => exact absurd h' (not_le.mpr (EReal.bot_lt_coe m))
      | top => exact absurd hM (lt_irrefl _)
      | coe M =>
        show ((Real.exp (x - m) : ℝ) : EReal) * ((Real.exp (m - M) : ℝ) : EReal) = ((Real.exp (x - M) : ℝ) : EReal)
        rw [← EReal.coe_mul, ← Real.exp_add, sub_add_sub_cancel]

/-- The sum of the exponentials of `y` on `[a, b)` below `M`. -/
def expSum (y : ℕ → EReal) (a b : ℕ) (M : EReal) : EReal := ∑ j ∈ Finset.Ico a b, Ideal.exp (y j - M)

theorem sum_mul_of_nonneg {ι : Type} (s : Finset ι) (f : ι → EReal) (c : EReal) (hf : ∀ i, 0 ≤ f i) :
    (∑ i ∈ s, f i) * c = ∑ i ∈ s, f i * c := by
  classical
  induction s using Finset.induction_on with
  | empty => rw [Finset.sum_empty, Finset.sum_empty, zero_mul]
  | insert i s hi ih =>
    rw [Finset.sum_insert hi, Finset.sum_insert hi, EReal.right_distrib_of_nonneg (hf i) (Finset.sum_nonneg fun j _ => hf j), ih]

/-- A sum of exponentials, carried to a greater bound. -/
theorem expSum_shift {y : ℕ → EReal} {a b : ℕ} {m M : EReal} (h : ∀ j, a ≤ j → j < b → y j ≤ m) (h' : m ≤ M) (hM : M < ⊤) :
    expSum y a b m * Ideal.exp (m - M) = expSum y a b M := by
  rw [expSum, expSum, sum_mul_of_nonneg _ _ _ fun _ => exp_nonneg _]
  refine Finset.sum_congr rfl fun j hj => ?_
  rw [Finset.mem_Ico] at hj
  exact exp_shift (h j hj.1 hj.2) h' hM

/-- A sum over a block of columns is a sum over their range. -/
theorem sum_block (f : ℕ → EReal) (a n : ℕ) : ∑ k : Fin n, f (a + k.val) = ∑ j ∈ Finset.Ico a (a + n), f j := by
  rw [Finset.sum_Ico_eq_sum_range, Nat.add_sub_cancel_left, Fin.sum_univ_eq_sum_range fun k => f (a + k)]

end Cert

end
-- ==== Proof.Rows.lean ====
/-
  A row of the logits, and of the perturbed logits, as a sequence that is `-∞` outside the vocabulary.
-/
module

public import proofs.«01_k».proof.Proof.FirstMax
public import proofs.«01_k».proof.Proof.ExpSum
public import proofs.«01_k».proof.Proof.Threefry

@[expose] public section

noncomputable section

namespace Cert

open Idealize.ShloMosaic

/-- Row `r` of the logits. -/
def row (lg : (⟨2, ![128, 100000]⟩ : Shape).Idx → EReal) (r : Fin 128) (n : ℕ) : EReal :=
  if h : n < 100000 then lg (ix2 r ⟨n, h⟩) else ⊥

/-- Row `r` of the perturbed logits. -/
def prow (lg : (⟨2, ![128, 100000]⟩ : Shape).Idx → EReal) (r : Fin 128) (n : ℕ) : EReal :=
  if n < 100000 then row lg r n + Draw.gumbel (BitVec.ofNat 32 (100000 * r.val + n)) else ⊥

/-- The sum over `[a, b)` that picks out the value at the word `w`. -/
def pick (y : ℕ → EReal) (a b : ℕ) (w : BitVec 32) : EReal := ∑ j ∈ Finset.Ico a b, if BitVec.ofNat 32 j = w then y j else 0

theorem row_out (lg : (⟨2, ![128, 100000]⟩ : Shape).Idx → EReal) (r : Fin 128) {n : ℕ} (h : 100000 ≤ n) : row lg r n = ⊥ :=
  dif_neg (by omega)

theorem prow_out (lg : (⟨2, ![128, 100000]⟩ : Shape).Idx → EReal) (r : Fin 128) {n : ℕ} (h : 100000 ≤ n) : prow lg r n = ⊥ :=
  if_neg (by omega)

/-- Past the vocabulary no exponential is added. -/
theorem expSum_trim (lg : (⟨2, ![128, 100000]⟩ : Shape).Idx → EReal) (r : Fin 128) (b : ℕ) (hb : 100000 ≤ b) (M : EReal) :
    expSum (row lg r) 0 b M = expSum (row lg r) 0 100000 M := by
  rw [expSum, expSum, ← Finset.sum_Ico_consecutive _ (Nat.zero_le 100000) hb]
  rw [Finset.sum_eq_zero (s := Finset.Ico 100000 b), add_zero]
  intro j hj
  rw [Finset.mem_Ico] at hj
  rw [row_out lg r hj.1, EReal.bot_sub]
  rfl

/-- The sum that picks out the value at a word of the range is that value. -/
theorem pick_eq (y : ℕ → EReal) (b : ℕ) (hb : b ≤ 2 ^ 32) (w : BitVec 32) (hw : w.toNat < b) : pick y 0 b w = y w.toNat := by
  rw [pick, Finset.sum_eq_single w.toNat]
  · rw [if_pos (by rw [BitVec.ofNat_toNat, BitVec.setWidth_eq])]
  · intro j hj hne
    rw [Finset.mem_Ico] at hj
    refine if_neg fun e => hne ?_
    rw [← e, BitVec.toNat_ofNat, Nat.mod_eq_of_lt (by omega)]
  · intro h
    exact absurd (Finset.mem_Ico.mpr ⟨Nat.zero_le _, hw⟩) h

end Cert

end
-- ==== Proof.KernelValue.lean ====
/-
  The kernel's three results over the extended reals.
-/
module

public import proofs.«01_k».proof.Proof.KernelRun
public import proofs.«01_k».proof.Proof.KernelDraw
public import proofs.«01_k».proof.Proof.Rows

@[expose] public section

set_option maxRecDepth 16384

noncomputable section

namespace Cert.KernelIdeal.Block

open Cert.KernelIdeal Cert.KernelIdeal.Gen Cert.Draw
open Idealize.ShloMosaic

variable {F : FTy → Type} [FloatOps F]

variable (m : (ℓ : Loc nD τ sig) → Buf (Elt F) ℓ)

/-- How many columns of the logits the block at each point brings. -/
theorem xsize_val : ∀ t : Fin grid0.N, (cfg0.win 0).xsize (grid0.coords t) 0 = 128 ∧
    (cfg0.win 0).xsize (grid0.coords t) 1 = min 2048 (100000 - 2048 * t.val) := by
  decide +kernel

/-- Where they begin. -/
theorem rect_off : ∀ t : Fin grid0.N, (cfg0.win 0).kind.off ((cfg0.win 0).index t 0) ((cfg0.win 0).size 0) = 0 ∧
    (cfg0.win 0).kind.off ((cfg0.win 0).index t 1) ((cfg0.win 0).size 1) = 2048 * t.val := by
  decide +kernel

/-- The actions' block begins at their first row. -/
theorem rect_off1 : ∀ t : Fin grid0.N, (cfg0.win 1).kind.off ((cfg0.win 1).index t 0) ((cfg0.win 1).size 0) = 0 ∧
    (cfg0.win 1).kind.off ((cfg0.win 1).index t 1) ((cfg0.win 1).size 1) = 0 := by
  decide +kernel

/-- The block staged at point `t` holds the logits' columns from `2048 t` on. -/
theorem blockAt_at (c : Dev nD) (t : Fin grid0.N) (d : Vec F S128x2048 .f32) (r : Fin 128) (k : Fin 2048)
    (h : 2048 * t.val + k.val < 100000) :
    blockAt m c t d (ix2 r k) = m ⟨c, Proc.devRef .tc main_arg0⟩ (ix2 r ⟨2048 * t.val + k.val, h⟩) := by
  unfold blockAt Pipeline.Window.fill
  have hm : (cfg0.win 0).moved (grid0.coords t) (ix2 r k) = true := by
    rw [Pipeline.Window.moved_iff]
    have hx := xsize_val t
    intro a
    match a with
    | ⟨0, _⟩ => exact lt_of_lt_of_eq r.isLt hx.1.symm
    | ⟨1, _⟩ => refine lt_of_lt_of_eq ?_ hx.2.symm; show k.val < _; have := k.isLt; omega
  rw [dif_pos hm]
  have ho := rect_off t
  refine congrArg (m ⟨c, Proc.devRef .tc main_arg0⟩)
    (show ((cfg0.win 0).rect t).emb _ = _ from funext fun a => Fin.ext ?_)
  rw [Rect.emb_apply]
  match a with
  | ⟨0, _⟩ => show (cfg0.win 0).kind.off ((cfg0.win 0).index t 0) ((cfg0.win 0).size 0) + 1 * r.val = r.val; omega
  | ⟨1, _⟩ =>
    show (cfg0.win 0).kind.off ((cfg0.win 0).index t 1) ((cfg0.win 0).size 1) + 1 * k.val = 2048 * t.val + k.val; omega

/-- The actions' one block is all of them. -/
theorem actAt_at (c : Dev nD) (t : Fin grid0.N) (d : Vec F S128x1 .i32) (r : Fin 128) :
    actAt m c t d (ix2 r 0) = m ⟨c, Proc.devRef .tc main_arg1⟩ (ix2 r 0) := by
  have ho := rect_off1 t
  refine congrArg (m ⟨c, Proc.devRef .tc main_arg1⟩)
    (show ((cfg0.win 1).rect t).emb _ = _ from funext fun a => Fin.ext ?_)
  rw [Rect.emb_apply]
  match a with
  | ⟨0, _⟩ => show (cfg0.win 1).kind.off ((cfg0.win 1).index t 0) ((cfg0.win 1).size 0) + 1 * r.val = r.val; omega
  | ⟨1, _⟩ => show (cfg0.win 1).kind.off ((cfg0.win 1).index t 1) ((cfg0.win 1).size 1) + 1 * 0 = 0; omega

/-! ## The columns after each point -/

/-- What a row of the six columns holds once the columns below `n` are seen. -/
structure Seen (lg : FVec Ideal S128x100000 .f32) (act : IVec S128x1 32) (n : ℕ) (r : Fin 128) (st : St Ideal) : Prop where
  m : FirstMax (row lg r) 0 n (st.m (ix2 r 0)) (st.mi (ix2 r 0))
  g : FirstMax (prow lg r) 0 n (st.gm (ix2 r 0)) (st.gi (ix2 r 0))
  s : (∀ j, row lg r j < ⊤) → st.s (ix2 r 0) = expSum (row lg r) 0 n (st.m (ix2 r 0))
  av : (act (ix2 r 0)).toNat < 100000 → st.av (ix2 r 0) = pick (row lg r) 0 n (act (ix2 r 0))

/-- What one block's payloads hold at a row. -/
theorem block_seen (lg : FVec Ideal S128x100000 .f32) (act : IVec S128x1 32) (i : grid0.Coords) (x : FVec Ideal S128x2048 .f32)
    (a : IVec S128x1 32) (r : Fin 128)
    (hx : ∀ k : Fin 2048, ∀ h : 2048 * (i 0).val + k.val < 100000, x (ix2 r k) = lg (ix2 r ⟨2048 * (i 0).val + k.val, h⟩))
    (ha : a (ix2 r 0) = act (ix2 r 0)) :
    FirstMax (row lg r) (2048 * (i 0).val) (2048 * (i 0).val + 2048) (k0_pay19 (F := Ideal) i x (ix2 r 0)) (k0_pay20 (F := Ideal) i x (ix2 r 0))
    ∧ FirstMax (prow lg r) (2048 * (i 0).val) (2048 * (i 0).val + 2048) (noisyMax (F := Ideal) i x (ix2 r 0))
      (k0_pay1 (F := Ideal) (k0_pay16 i) (noisy i x) (noisyMaxRow i x) (ix2 r 0))
    ∧ k0_pay21 (F := Ideal) i x (ix2 r 0) = expSum (row lg r) (2048 * (i 0).val) (2048 * (i 0).val + 2048) (k0_pay19 (F := Ideal) i x (ix2 r 0))
    ∧ ((act (ix2 r 0)).toNat < 100000 →
      k0_pay22 (F := Ideal) i x a (ix2 r 0) = pick (row lg r) (2048 * (i 0).val) (2048 * (i 0).val + 2048) (act (ix2 r 0))) := by
  have hi := coord_lt i
  have hr : ∀ k : Fin 2048, 2048 * (i 0).val + k.val < 100000 → x (ix2 r k) = row lg r (2048 * (i 0).val + k.val) := fun k h => by
    rw [hx k h, row, dif_pos h]
  refine ⟨firstMax_block i x r _ hr (fun n => row_out lg r), firstMax_noisy i x r _ (fun k h => ?_) (fun n => prow_out lg r), ?_, fun hact => ?_⟩
  · rw [prow, if_pos h, hr k h]
  · rw [sum_at, expSum, ← sum_block]
    refine Finset.sum_congr rfl fun k _ => ?_
    split
    · rw [hr k ‹_›]
    · rw [row_out lg r (by omega), EReal.bot_sub]; rfl
  · rw [pick_at, pick, ← sum_block, ha]
    refine Finset.sum_congr rfl fun k _ => ?_
    by_cases e : BitVec.ofNat 32 (2048 * (i 0).val + k.val) = act (ix2 r 0)
    · rw [if_pos e, if_pos e]
      apply hr
      rw [← e, BitVec.toNat_ofNat, Nat.mod_eq_of_lt (by omega)] at hact
      exact hact
    · rw [if_neg e, if_neg e]

/-- After the first point. -/
theorem first_seen (lg : FVec Ideal S128x100000 .f32) (act : IVec S128x1 32) (i : grid0.Coords) (x : FVec Ideal S128x2048 .f32)
    (a : IVec S128x1 32) (r : Fin 128) (hi : (i 0).val = 0)
    (hx : ∀ k : Fin 2048, ∀ h : 2048 * (i 0).val + k.val < 100000, x (ix2 r k) = lg (ix2 r ⟨2048 * (i 0).val + k.val, h⟩))
    (ha : a (ix2 r 0) = act (ix2 r 0)) : Seen lg act 2048 r (first (F := Ideal) i x a) := by
  obtain ⟨h1, h2, h3, h4⟩ := block_seen lg act i x a r hx ha
  rw [hi] at h1 h2 h3 h4
  have em : (first (F := Ideal) i x a).m (ix2 r 0) = k0_pay19 (F := Ideal) i x (ix2 r 0) := by
    rw [first_m]; generalize k0_pay19 (F := Ideal) i x = z; pointwise [k0_pay2]
  have es : (first (F := Ideal) i x a).s (ix2 r 0) = k0_pay21 (F := Ideal) i x (ix2 r 0) := by
    rw [first_s]; generalize k0_pay21 (F := Ideal) i x = z; pointwise [k0_pay3]
  have emi : (first (F := Ideal) i x a).mi (ix2 r 0) = k0_pay20 (F := Ideal) i x (ix2 r 0) := by
    rw [first_mi]; generalize k0_pay20 (F := Ideal) i x = z; pointwise [k0_pay4]
  have egm : (first (F := Ideal) i x a).gm (ix2 r 0) = noisyMax (F := Ideal) i x (ix2 r 0) := by
    rw [first_gm]; generalize noisyMax (F := Ideal) i x = z; pointwise [k0_pay5]
  have egi : (first (F := Ideal) i x a).gi (ix2 r 0) = k0_pay1 (F := Ideal) (k0_pay16 i) (noisy i x) (noisyMaxRow i x) (ix2 r 0) := by
    rw [first_gi, k0_pay6]; generalize k0_pay1 (F := Ideal) (k0_pay16 i) (noisy i x) (noisyMaxRow i x) = z; pointwise
  have eav : (first (F := Ideal) i x a).av (ix2 r 0) = k0_pay22 (F := Ideal) i x a (ix2 r 0) := by
    rw [first_av]; generalize k0_pay22 (F := Ideal) i x a = z; pointwise [k0_pay7]
  constructor
  · rw [em, emi]; exact h1
  · rw [egm, egi]; exact h2
  · intro _; rw [em, es]; exact h3
  · intro h; rw [eav]; exact h4 h

/-- The running maximum after a block, at a row. -/
theorem max_row (z m : FVec Ideal S128x1 .f32) (j : S128x1.Idx) : k0_pay10 z m j = max (m j : EReal) (z j) := rfl

theorem m_row (z m : FVec Ideal S128x1 .f32) (r : Fin 128) : k0_pay13 z m (ix2 r 0) = max (m (ix2 r 0) : EReal) (z (ix2 r 0)) := by
  unfold k0_pay13
  pointwise [max_row]

theorem mi_row (z m : FVec Ideal S128x1 .f32) (w mi : IVec S128x1 32) (r : Fin 128) :
    k0_pay12 z w m mi (ix2 r 0) = if (m (ix2 r 0) : EReal) < z (ix2 r 0) then w (ix2 r 0) else mi (ix2 r 0) := by
  unfold k0_pay12
  pointwise [cmpf_ogt, select_decide]

theorem gm_row (z m : FVec Ideal S128x1 .f32) (r : Fin 128) : k0_pay15 z m (ix2 r 0) = max (m (ix2 r 0) : EReal) (z (ix2 r 0)) := by
  unfold k0_pay15
  pointwise

theorem gi_row (z m : FVec Ideal S128x1 .f32) (w mi : IVec S128x1 32) (r : Fin 128) :
    k0_pay14 z w m mi (ix2 r 0) = if (m (ix2 r 0) : EReal) < z (ix2 r 0) then w (ix2 r 0) else mi (ix2 r 0) := by
  unfold k0_pay14
  pointwise [cmpf_ogt, select_decide]

theorem s_row (z w m s : FVec Ideal S128x1 .f32) (r : Fin 128) :
    k0_pay11 z w m s (ix2 r 0) = s (ix2 r 0) * Ideal.exp (m (ix2 r 0) - max (m (ix2 r 0) : EReal) (z (ix2 r 0)))
      + w (ix2 r 0) * Ideal.exp (z (ix2 r 0) - max (m (ix2 r 0) : EReal) (z (ix2 r 0))) := by
  unfold k0_pay11
  pointwise [max_row]

theorem av_row (w v : FVec Ideal S128x1 .f32) (r : Fin 128) : k0_pay8 w v (ix2 r 0) = (v (ix2 r 0) : EReal) + w (ix2 r 0) := by
  unfold k0_pay8
  pointwise

section Next

variable (i : grid0.Coords) (x : Vec F S128x2048 .f32) (a : Vec F S128x1 .i32) (st : St F)

theorem next_m : (next i x a st).m = k0_pay13 (k0_pay19 i x) st.m := by rw [next]
theorem next_s : (next i x a st).s = k0_pay11 (k0_pay19 i x) (k0_pay21 i x) st.m st.s := by rw [next]
theorem next_mi : (next i x a st).mi = k0_pay12 (k0_pay19 i x) (k0_pay20 i x) st.m st.mi := by rw [next]
theorem next_gm : (next i x a st).gm = k0_pay15 (noisyMax i x) st.gm := by rw [next]
theorem next_gi : (next i x a st).gi = k0_pay14 (noisyMax i x) (k0_pay1 (k0_pay16 i) (noisy i x) (noisyMaxRow i x)) st.gm st.gi := by rw [next]
theorem next_av : (next i x a st).av = k0_pay8 (k0_pay22 i x a) st.av := by rw [next]

end Next

/-- After a later point. -/
theorem next_seen (lg : FVec Ideal S128x100000 .f32) (act : IVec S128x1 32) (i : grid0.Coords) (x : FVec Ideal S128x2048 .f32)
    (a : IVec S128x1 32) (r : Fin 128) (st : St Ideal)
    (hx : ∀ k : Fin 2048, ∀ h : 2048 * (i 0).val + k.val < 100000, x (ix2 r k) = lg (ix2 r ⟨2048 * (i 0).val + k.val, h⟩))
    (ha : a (ix2 r 0) = act (ix2 r 0)) (hst : Seen lg act (2048 * (i 0).val) r st) :
    Seen lg act (2048 * (i 0).val + 2048) r (next (F := Ideal) i x a st) := by
  obtain ⟨h1, h2, h3, h4⟩ := block_seen lg act i x a r hx ha
  obtain ⟨g1, g2, g3, g4⟩ := hst
  have em : (next (F := Ideal) i x a st).m (ix2 r 0) = max (st.m (ix2 r 0) : EReal) (k0_pay19 (F := Ideal) i x (ix2 r 0)) := by
    rw [next_m, m_row]
  have emi : (next (F := Ideal) i x a st).mi (ix2 r 0) =
      if (st.m (ix2 r 0) : EReal) < k0_pay19 (F := Ideal) i x (ix2 r 0) then k0_pay20 (F := Ideal) i x (ix2 r 0) else st.mi (ix2 r 0) := by
    rw [next_mi, mi_row]
  have egm : (next (F := Ideal) i x a st).gm (ix2 r 0) = max (st.gm (ix2 r 0) : EReal) (noisyMax (F := Ideal) i x (ix2 r 0)) := by
    rw [next_gm, gm_row]
  have egi : (next (F := Ideal) i x a st).gi (ix2 r 0) =
      if (st.gm (ix2 r 0) : EReal) < noisyMax (F := Ideal) i x (ix2 r 0)
      then k0_pay1 (F := Ideal) (k0_pay16 i) (noisy i x) (noisyMaxRow i x) (ix2 r 0) else st.gi (ix2 r 0) := by
    rw [next_gi, gi_row]
  have es : (next (F := Ideal) i x a st).s (ix2 r 0) =
      st.s (ix2 r 0) * Ideal.exp (st.m (ix2 r 0) - max (st.m (ix2 r 0) : EReal) (k0_pay19 (F := Ideal) i x (ix2 r 0)))
        + k0_pay21 (F := Ideal) i x (ix2 r 0) * Ideal.exp (k0_pay19 (F := Ideal) i x (ix2 r 0) - max (st.m (ix2 r 0) : EReal) (k0_pay19 (F := Ideal) i x (ix2 r 0))) := by
    rw [next_s, s_row]
  have eav : (next (F := Ideal) i x a st).av (ix2 r 0) = (st.av (ix2 r 0) : EReal) + k0_pay22 (F := Ideal) i x a (ix2 r 0) := by
    rw [next_av, av_row]
  constructor
  · rw [em, emi]; exact g1.join h1
  · rw [egm, egi]; exact g2.join h2
  · intro hf
    have ht : max (st.m (ix2 r 0) : EReal) (k0_pay19 (F := Ideal) i x (ix2 r 0)) < ⊤ := by
      obtain ⟨k, _, _, e⟩ := g1.attained
      obtain ⟨k', _, _, e'⟩ := h1.attained
      exact max_lt (e ▸ hf k) (e' ▸ hf k')
    rw [em, es, g3 hf, h3, expSum_shift (fun j hj hj' => g1.le j hj hj') (le_max_left _ _) ht,
      expSum_shift (fun j hj hj' => h1.le j hj hj') (le_max_right _ _) ht]
    exact Finset.sum_Ico_consecutive _ (Nat.zero_le _) (Nat.le_add_right _ _)
  · intro h
    rw [eav, g4 h, h4 h]
    exact Finset.sum_Ico_consecutive _ (Nat.zero_le _) (Nat.le_add_right _ _)

/-- Whatever the scratch holds after `n` points, it is what `Seen` says of the first `2048 n` columns. -/
theorem reach_seen (m : (ℓ : Loc nD τ sig) → Buf (Elt Ideal) ℓ) (c : Dev nD) (r : Fin 128) {n : ℕ} {st : St Ideal} (h : Reach m c n st) (hn : 0 < n) :
    Seen (m ⟨c, Proc.devRef .tc main_arg0⟩) (m ⟨c, Proc.devRef .tc main_arg1⟩) (2048 * n) r st := by
  induction h with
  | start st => omega
  | point t d e st hst ih =>
    have hv := coord_val t
    have hx : ∀ k : Fin 2048, ∀ h : 2048 * (grid0.coords t 0).val + k.val < 100000, blockAt m c t d (ix2 r k)
        = m ⟨c, Proc.devRef .tc main_arg0⟩ (ix2 r ⟨2048 * (grid0.coords t 0).val + k.val, h⟩) := fun k h => by
      rw [blockAt_at m c t d r k (hv ▸ h)]
      simp only [hv]
    by_cases h0 : t.val = 0
    · rw [step, if_pos (hv.trans h0), h0]
      exact first_seen _ _ _ _ _ r (hv.trans h0) hx (actAt_at m c t e r)
    · rw [step, if_neg (fun h => h0 (hv.symm.trans h)), Nat.mul_add]
      have := next_seen _ (m ⟨c, Proc.devRef .tc main_arg1⟩) (grid0.coords t) _ (actAt m c t e) r st hx (actAt_at m c t e r) (by
        rw [hv]; exact ih (by omega))
      rw [hv] at this
      exact this

end Cert.KernelIdeal.Block

end
-- ==== Proof.SoftmaxOrder.lean ====
/-
  A softmax is greatest where its argument is: the first place at which a sequence attains a maximum below `+∞` is also the
  first place at which its softmax attains its own.
-/
module

public import proofs.«01_k».proof.Proof.ExpSum
public import proofs.«01_k».proof.Proof.FirstMax

@[expose] public section

noncomputable section

namespace Cert

open Idealize.ShloMosaic

/-- The softmax of a sequence over `[0, n)`, about the number `M`. -/
def share (y : ℕ → EReal) (n : ℕ) (M : EReal) (j : ℕ) : EReal := Ideal.div (Ideal.exp (y j - M)) (expSum y 0 n M)

/-- The real number that an exponential below a real maximum is. -/
def expReal (m : ℝ) (x : EReal) : ℝ := if x = ⊥ then 0 else Real.exp (x.toReal - m)

theorem exp_eq {m : ℝ} {x : EReal} (h : x ≤ m) : Ideal.exp (x - m) = (expReal m x : EReal) := by
  induction x with
  | bot => rw [EReal.bot_sub, expReal, if_pos rfl]; rfl
  | top => exact absurd h (not_le.mpr (EReal.coe_lt_top m))
  | coe x =>
    rw [expReal, if_neg (EReal.coe_ne_bot x), EReal.toReal_coe, ← EReal.coe_sub]
    rfl

theorem expReal_nonneg (m : ℝ) (x : EReal) : 0 ≤ expReal m x := by
  rw [expReal]
  split
  · exact le_rfl
  · exact (Real.exp_pos _).le

theorem expReal_lt {m : ℝ} {x y : EReal} (hy : y ≤ m) (h : x < y) : expReal m x < expReal m y := by
  have yb : y ≠ ⊥ := (bot_le.trans_lt h).ne'
  have yt : y ≠ ⊤ := (hy.trans_lt (EReal.coe_lt_top m)).ne
  rw [expReal, expReal, if_neg yb]
  split
  · exact Real.exp_pos _
  · next xb =>
    refine Real.exp_lt_exp.mpr (sub_lt_sub_right ?_ m)
    rw [← EReal.coe_lt_coe_iff, EReal.coe_toReal (h.trans (lt_top_iff_ne_top.mpr yt)).ne xb, EReal.coe_toReal yt yb]
    exact h

/-- A finite sum of real numbers is the same among the extended reals. -/
theorem coe_total (s : Finset ℕ) (f : ℕ → ℝ) : ((∑ j ∈ s, f j : ℝ) : EReal) = ∑ j ∈ s, (f j : EReal) := by
  induction s using Finset.induction_on with
  | empty => rfl
  | insert a s ha ih => rw [Finset.sum_insert ha, Finset.sum_insert ha, EReal.coe_add, ih]

/-- Where a sequence first attains a maximum below `+∞` its softmax first attains its own. -/
theorem FirstMax.softmax {y : ℕ → EReal} {n : ℕ} {M : EReal} {I : BitVec 32} (h : FirstMax y 0 n M I) (hM : M < ⊤) :
    ∃ N, FirstMax (share y n M) 0 n N I := by
  have hle : ∀ j, j < n → y j ≤ M := fun j hj => h.le j (Nat.zero_le _) hj
  obtain ⟨k, -, hk, hkM⟩ := h.attained
  induction M with
  | top => exact absurd hM (lt_irrefl _)
  | bot =>
    have hb : ∀ j, j < n → y j = ⊥ := fun j hj => le_bot_iff.mp (hle j hj)
    refine h.mono (fun i j hi hj hij => ?_) fun i j hi hj _ => ?_
    · rw [hb i hi, hb j hj] at hij
      exact absurd hij (lt_irrefl _)
    · rw [share, share, hb i hi, hb j hj]
  | coe m =>
    have hs : expSum y 0 n (m : EReal) = ((∑ j ∈ Finset.Ico 0 n, expReal m (y j) : ℝ) : EReal) := by
      rw [expSum, coe_total]
      refine Finset.sum_congr rfl fun j hj => exp_eq (hle j (Finset.mem_Ico.mp hj).2)
    have hpos : 0 < ∑ j ∈ Finset.Ico 0 n, expReal m (y j) := by
      refine Finset.sum_pos' (fun j _ => expReal_nonneg m _) ⟨k, Finset.mem_Ico.mpr ⟨Nat.zero_le _, hk⟩, ?_⟩
      rw [hkM, expReal, if_neg (EReal.coe_ne_bot m)]
      exact Real.exp_pos _
    generalize ∑ j ∈ Finset.Ico 0 n, expReal m (y j) = S at hs hpos
    have hq : ∀ j, j < n → share y n m j = ((expReal m (y j) * S⁻¹ : ℝ) : EReal) := by
      intro j hj
      rw [share, hs, exp_eq (hle j hj), Ideal.div, if_neg (EReal.coe_ne_zero.mpr hpos.ne'), EReal.coe_mul, EReal.coe_inv]
    refine h.mono (fun i j hi hj hij => ?_) fun i j hi hj hij => ?_
    · rw [hq i hi, hq j hj]
      exact EReal.coe_lt_coe_iff.mpr (mul_lt_mul_of_pos_right (expReal_lt (hle j hj) hij) (inv_pos.mpr hpos))
    · rcases hij.lt_or_eq with hij | hij
      · rw [hq i hi, hq j hj]
        exact EReal.coe_le_coe_iff.mpr (mul_le_mul_of_nonneg_right (expReal_lt (hle j hj) hij).le (inv_pos.mpr hpos).le)
      · rw [share, share, hij]

end Cert

end
-- ==== Proof.Results.lean ====
/-
  The three results as one states them of a row: the log-probability of the action, the first place of the greatest logit and
  the first place of the greatest perturbed logit.
-/
module

public import proofs.«01_k».proof.Proof.Rows
public import proofs.«01_k».proof.Proof.SoftmaxOrder

@[expose] public section

noncomputable section

namespace Cert

open Idealize.ShloMosaic

/-- A sequence attains a maximum on a range that is not empty. -/
theorem FirstMax.some (y : ℕ → EReal) (n : ℕ) (hn : 0 < n) : ∃ M I, FirstMax y 0 n M I := by
  classical
  have he : ∃ k, k < n ∧ ∀ j, j < n → y j ≤ y k := by
    obtain ⟨k, hk, hm⟩ := Finset.exists_max_image (Finset.range n) y ⟨0, Finset.mem_range.mpr hn⟩
    exact ⟨k, Finset.mem_range.mp hk, fun j hj => hm j (Finset.mem_range.mpr hj)⟩
  obtain ⟨hk, hm⟩ := Nat.find_spec he
  refine ⟨y (Nat.find he), BitVec.ofNat 32 (Nat.find he), Nat.find he, Nat.zero_le _, hk, rfl, rfl, fun j _ hj => hm j hj, fun j _ hj => ?_⟩
  by_contra hlt
  exact Nat.find_min he hj ⟨hj.trans hk, fun i hi => (hm i hi).trans (not_lt.mp hlt)⟩

/-- The first place at which a sequence attains its maximum over the vocabulary. -/
def firstAt (y : ℕ → EReal) : BitVec 32 := Classical.epsilon fun I => ∃ M, FirstMax y 0 100000 M I

theorem firstAt_eq {y : ℕ → EReal} {M : EReal} {I : BitVec 32} (h : FirstMax y 0 100000 M I) : I = firstAt y := by
  have hs : ∃ N, FirstMax y 0 100000 N (firstAt y) := Classical.epsilon_spec (p := fun I => ∃ M, FirstMax y 0 100000 M I) ⟨I, M, h⟩
  obtain ⟨N, hN⟩ := hs
  exact (h.unique hN).2

theorem firstAt_spec (y : ℕ → EReal) : ∃ M, FirstMax y 0 100000 M (firstAt y) := by
  obtain ⟨M, I, h⟩ := FirstMax.some y 100000 (by omega)
  exact ⟨M, firstAt_eq h ▸ h⟩

/-- The maximum of a sequence over the vocabulary. -/
def maxOf (y : ℕ → EReal) : EReal := Classical.epsilon fun M => FirstMax y 0 100000 M (firstAt y)

theorem maxOf_spec (y : ℕ → EReal) : FirstMax y 0 100000 (maxOf y) (firstAt y) :=
  Classical.epsilon_spec (p := fun M => FirstMax y 0 100000 M (firstAt y)) (firstAt_spec y)

theorem maxOf_eq {y : ℕ → EReal} {M : EReal} {I : BitVec 32} (h : FirstMax y 0 100000 M I) : M = maxOf y :=
  (h.unique (maxOf_spec y)).1

/-- The log-probability of the place `k` under the logits `y`. -/
def logProb (y : ℕ → EReal) (k : ℕ) : EReal := (y k - maxOf y) - Ideal.log (expSum y 0 100000 (maxOf y))

end Cert

end
-- ==== Proof.KernelResult.lean ====
/-
  The kernel's three results, row by row.
-/
module

public import proofs.«01_k».proof.Proof.KernelValue
public import proofs.«01_k».proof.Proof.Results

@[expose] public section

set_option maxRecDepth 16384

noncomputable section

namespace Cert.KernelIdeal.Block

open Cert.KernelIdeal Cert.KernelIdeal.Gen Cert.Draw
open Idealize.ShloMosaic

/-- The first result is made of the three columns entry by entry. -/
theorem logp_row (v m s : FVec Ideal S128x1 .f32) (r : Fin 128) :
    k0_pay9 v m s (ix2 r 0) = ((v (ix2 r 0) : EReal) - m (ix2 r 0)) - Ideal.log (s (ix2 r 0)) := by
  unfold k0_pay9
  pointwise

variable (m : (ℓ : Loc nD τ sig) → Buf (Elt Ideal) ℓ) (c : Dev nD) (r : Fin 128) {st : St Ideal} (h : Reach m c 49 st)

include h

/-- The running maximum and its place end at those of the row. -/
theorem end_max : FirstMax (row (m ⟨c, Proc.devRef .tc main_arg0⟩) r) 0 100000 (st.m (ix2 r 0)) (st.mi (ix2 r 0)) :=
  (reach_seen m c r h (by omega)).m.trim (by omega) (by omega) fun _ => row_out _ r

/-- The second result: the first place of the greatest logit. -/
theorem end_mode : st.mi (ix2 r 0) = firstAt (row (m ⟨c, Proc.devRef .tc main_arg0⟩) r) := firstAt_eq (end_max m c r h)

/-- The third result: the first place of the greatest perturbed logit. -/
theorem end_sample : st.gi (ix2 r 0) = firstAt (prow (m ⟨c, Proc.devRef .tc main_arg0⟩) r) :=
  firstAt_eq ((reach_seen m c r h (by omega)).g.trim (b := 100000) (by omega) (by omega) fun _ => prow_out _ r)

/-- The first result: the log-probability of the action. -/
theorem end_logp (hf : ∀ j, row (m ⟨c, Proc.devRef .tc main_arg0⟩) r j < ⊤)
    (ha : (m ⟨c, Proc.devRef .tc main_arg1⟩ (ix2 r 0) : BitVec 32).toNat < 100000) :
    logp st (ix2 r 0) = logProb (row (m ⟨c, Proc.devRef .tc main_arg0⟩) r) (m ⟨c, Proc.devRef .tc main_arg1⟩ (ix2 r 0) : BitVec 32).toNat := by
  have hs := reach_seen m c r h (by omega)
  rw [logp, logp_row, hs.av ha, hs.s hf, pick_eq _ _ (by omega) _ (by omega), expSum_trim _ _ _ (by omega), maxOf_eq (end_max m c r h)]
  rfl

end Cert.KernelIdeal.Block

end
-- ==== Proof.RefDraw.lean ====
/-
  The words the reference draws: its generator's statements, read at one place, are the twenty rounds.
-/
module

public import proofs.«01_k».proof.Proof.Line
public import proofs.«01_k».proof.Proof.Threefry
public import proofs.«01_k».proof.ReferenceIdeal

@[expose] public section

noncomputable section

namespace Cert.ReferenceIdeal.Draw

open Idealize.ShloMosaic Idealize.ShloMosaic.TcCoe Idealize.ShloMosaic.StableHlo Idealize.SL.Sem
open Cert.ReferenceIdeal Cert.Straight Cert.Draw

/-- A program of host operations. -/
abbrev Code (F : FTy → Type) (n : Nat) (Λ : Labels) : Type 1 := Prog (TpuEff n τ sig (Elt F) Λ .tc) PUnit

/-- A buffer of words over the logits' shape. -/
abbrev Vec : Type := TRef sig ⟨S128x100000, .i32⟩

/-- A buffer of one word. -/
abbrev Sca : Type := TRef sig ⟨S_, .i32⟩

section Steps

variable {F : FTy → Type} [FloatOps F] {Λ : Labels} {n : Nat} {W : Valuation τ sig (Elt F)}

/-- One equation and the rest of the program. -/
theorem next_nullary {T : BufTy} {y : TRef sig T} {v : T.Contents (Elt F)} {q : Code F n Λ}
    (h : Holds W ((hlo rfl (TRef.nullary y v) fun _ => .ret ⟨⟩ : Code F n Λ) >>= fun _ => q)) : val W y = v ∧ Holds W q :=
  ⟨h.bind.1.tnullary, h.bind.2⟩

theorem next_unary {T U : BufTy} {x : TRef sig T} {y : TRef sig U} {f : T.Contents (Elt F) → U.Contents (Elt F)} {q : Code F n Λ}
    (h : Holds W ((hlo rfl (TRef.unary x y f) fun _ => .ret ⟨⟩ : Code F n Λ) >>= fun _ => q)) : val W y = f (val W x) ∧ Holds W q :=
  ⟨h.bind.1.tunary, h.bind.2⟩

theorem next_binary {T U V : BufTy} {a : TRef sig T} {b : TRef sig U} {y : TRef sig V}
    {f : T.Contents (Elt F) → U.Contents (Elt F) → V.Contents (Elt F)} {q : Code F n Λ}
    (h : Holds W ((hlo rfl (TRef.binary a b y f) fun _ => .ret ⟨⟩ : Code F n Λ) >>= fun _ => q)) :
    val W y = f (val W a) (val W b) ∧ Holds W q :=
  ⟨h.bind.1.tbinary, h.bind.2⟩

/-- Two buffers of words hold the pair `p` at the place `i`. -/
def Pair (W : Valuation τ sig (Elt F)) (a b : Vec) (i : S128x100000.Idx) (p : BitVec 32 × BitVec 32) : Prop :=
  val W a i = p.1 ∧ val W b i = p.2

/-- A scalar buffer holds the word `w`. -/
def Is (W : Valuation τ sig (Elt F)) (k : Sca) (w : BitVec 32) : Prop := ∀ i, val W k i = w

variable {hb : S_.BroadcastsInDim S128x100000 (![] : Fin 0 → Fin S128x100000.rank)} {i : S128x100000.Idx}
  {p : BitVec 32 × BitVec 32} {r s : BitVec 32} {a b y x vr l vs t o : Vec} {cr cs : Sca} {q : Code F n Λ}

/-- The rotation of the second word, given the equations of its eight statements. -/
theorem rotated (hr : r.toNat < 32) (hs : s.toNat < 32) (hp : Pair W a b i p) (hy : val W y = addi (val W a) (val W b))
    (e1 : val W cr = constantI S_ 32 r) (e2 : val W vr = broadcastInDim S128x100000 ![] hb (val W cr))
    (e3 : val W l = Host.shli (val W b) (val W vr))
    (e4 : val W cs = constantI S_ 32 s) (e5 : val W vs = broadcastInDim S128x100000 ![] hb (val W cs))
    (e6 : val W t = Host.shrui (val W b) (val W vs)) (e7 : val W o = ori (val W l) (val W t))
    (e8 : val W x = xori (val W y) (val W o)) : Pair W y x i (rnd r s p) := by
  obtain ⟨h1, h2⟩ := hp
  have hyi : val W y i = p.1 + p.2 := by rw [hy, ← h1, ← h2]; rfl
  have hl : val W l i = p.2 <<< r := by
    rw [e3, e2, e1, ← h2]; exact shli_lt _ _ _ hr
  have ht : val W t i = p.2 >>> s := by
    rw [e6, e5, e4, ← h2]; exact shrui_lt _ _ _ hs
  refine ⟨hyi, ?_⟩
  have hx : val W x i = val W y i ^^^ (val W l i ||| val W t i) := by rw [e8, e7]; rfl
  rw [hx, hyi, hl, ht, BitVec.xor_comm]
  rfl

/-- The rotation, its sum being known, and the rest of the program. -/
theorem rot (hr : r.toNat < 32) (hs : s.toNat < 32) (hp : Pair W a b i p) (hy : val W y = addi (val W a) (val W b))
    (h : Holds W (do
      (hlo rfl (TRef.nullary cr (constantI S_ 32 r)) fun _ => .ret ⟨⟩ : Code F n Λ)
      hlo rfl (TRef.unary cr vr (broadcastInDim S128x100000 ![] hb)) fun _ => .ret ⟨⟩
      hlo rfl (TRef.binary b vr l Host.shli) fun _ => .ret ⟨⟩
      hlo rfl (TRef.nullary cs (constantI S_ 32 s)) fun _ => .ret ⟨⟩
      hlo rfl (TRef.unary cs vs (broadcastInDim S128x100000 ![] hb)) fun _ => .ret ⟨⟩
      hlo rfl (TRef.binary b vs t Host.shrui) fun _ => .ret ⟨⟩
      hlo rfl (TRef.binary l t o ori) fun _ => .ret ⟨⟩
      hlo rfl (TRef.binary y o x xori) fun _ => .ret ⟨⟩
      q)) : Pair W y x i (rnd r s p) ∧ Holds W q := by
  obtain ⟨e1, h⟩ := next_nullary h
  obtain ⟨e2, h⟩ := next_unary h
  obtain ⟨e3, h⟩ := next_binary h
  obtain ⟨e4, h⟩ := next_nullary h
  obtain ⟨e5, h⟩ := next_unary h
  obtain ⟨e6, h⟩ := next_binary h
  obtain ⟨e7, h⟩ := next_binary h
  obtain ⟨e8, h⟩ := next_binary h
  exact ⟨rotated hr hs hp hy e1 e2 e3 e4 e5 e6 e7 e8, h⟩

/-- The same at the end of a program. -/
theorem rot_end (hr : r.toNat < 32) (hs : s.toNat < 32) (hp : Pair W a b i p) (hy : val W y = addi (val W a) (val W b))
    (h : Holds W (do
      (hlo rfl (TRef.nullary cr (constantI S_ 32 r)) fun _ => .ret ⟨⟩ : Code F n Λ)
      hlo rfl (TRef.unary cr vr (broadcastInDim S128x100000 ![] hb)) fun _ => .ret ⟨⟩
      hlo rfl (TRef.binary b vr l Host.shli) fun _ => .ret ⟨⟩
      hlo rfl (TRef.nullary cs (constantI S_ 32 s)) fun _ => .ret ⟨⟩
      hlo rfl (TRef.unary cs vs (broadcastInDim S128x100000 ![] hb)) fun _ => .ret ⟨⟩
      hlo rfl (TRef.binary b vs t Host.shrui) fun _ => .ret ⟨⟩
      hlo rfl (TRef.binary l t o ori) fun _ => .ret ⟨⟩
      hlo rfl (TRef.binary y o x xori) fun _ => .ret ⟨⟩)) : Pair W y x i (rnd r s p) := by
  obtain ⟨e1, h⟩ := next_nullary h
  obtain ⟨e2, h⟩ := next_unary h
  obtain ⟨e3, h⟩ := next_binary h
  obtain ⟨e4, h⟩ := next_nullary h
  obtain ⟨e5, h⟩ := next_unary h
  obtain ⟨e6, h⟩ := next_binary h
  obtain ⟨e7, h⟩ := next_binary h
  exact rotated hr hs hp hy e1 e2 e3 e4 e5 e6 e7 h.tbinary

/-- Adding the key's two words and the injection's number, and the rest of the program. -/
theorem keyed {k1 k2 : Sca} {w1 w2 m w : BitVec 32} {a' b' b'' v1 v2 v3 : Vec} {c : Sca} (hk1 : Is W k1 w1) (hk2 : Is W k2 w2)
    (hw : w2 + m = w) (hp : Pair W a b i p)
    (h : Holds W (do
      (hlo rfl (TRef.unary k1 v1 (broadcastInDim S128x100000 ![] hb)) fun _ => .ret ⟨⟩ : Code F n Λ)
      hlo rfl (TRef.binary a v1 a' addi) fun _ => .ret ⟨⟩
      hlo rfl (TRef.unary k2 v2 (broadcastInDim S128x100000 ![] hb)) fun _ => .ret ⟨⟩
      hlo rfl (TRef.binary b v2 b' addi) fun _ => .ret ⟨⟩
      hlo rfl (TRef.nullary c (constantI S_ 32 m)) fun _ => .ret ⟨⟩
      hlo rfl (TRef.unary c v3 (broadcastInDim S128x100000 ![] hb)) fun _ => .ret ⟨⟩
      hlo rfl (TRef.binary b' v3 b'' addi) fun _ => .ret ⟨⟩
      q)) : Pair W a' b'' i (key w1 w p) ∧ Holds W q := by
  obtain ⟨e1, h⟩ := next_unary h
  obtain ⟨e2, h⟩ := next_binary h
  obtain ⟨e3, h⟩ := next_unary h
  obtain ⟨e4, h⟩ := next_binary h
  obtain ⟨e5, h⟩ := next_nullary h
  obtain ⟨e6, h⟩ := next_unary h
  obtain ⟨e7, h⟩ := next_binary h
  obtain ⟨h1, h2⟩ := hp
  have f1 : val W v1 i = w1 := by rw [e1]; exact hk1 _
  have f2 : val W v2 i = w2 := by rw [e3]; exact hk2 _
  have f3 : val W v3 i = m := by rw [e6, e5]; rfl
  refine ⟨⟨?_, ?_⟩, h⟩
  · have : val W a' i = val W a i + val W v1 i := by rw [e2]; rfl
    rw [this, h1, f1]; rfl
  · have : val W b'' i = val W b i + val W v2 i + val W v3 i := by rw [e7, e4]; rfl
    rw [this, h2, f2, f3, BitVec.add_assoc, hw]; rfl

/-- A round and the rest of the program. -/
theorem round (hr : r.toNat < 32) (hs : s.toNat < 32) (hp : Pair W a b i p)
    (h : Holds W (do
      (hlo rfl (TRef.binary a b y addi) fun _ => .ret ⟨⟩ : Code F n Λ)
      hlo rfl (TRef.nullary cr (constantI S_ 32 r)) fun _ => .ret ⟨⟩
      hlo rfl (TRef.unary cr vr (broadcastInDim S128x100000 ![] hb)) fun _ => .ret ⟨⟩
      hlo rfl (TRef.binary b vr l Host.shli) fun _ => .ret ⟨⟩
      hlo rfl (TRef.nullary cs (constantI S_ 32 s)) fun _ => .ret ⟨⟩
      hlo rfl (TRef.unary cs vs (broadcastInDim S128x100000 ![] hb)) fun _ => .ret ⟨⟩
      hlo rfl (TRef.binary b vs t Host.shrui) fun _ => .ret ⟨⟩
      hlo rfl (TRef.binary l t o ori) fun _ => .ret ⟨⟩
      hlo rfl (TRef.binary y o x xori) fun _ => .ret ⟨⟩
      q)) : Pair W y x i (rnd r s p) ∧ Holds W q := by
  obtain ⟨e, h⟩ := next_binary h
  exact rot hr hs hp e h

end Steps

variable {F : FTy → Type} [FloatOps F] [Facts] {W : Valuation τ sig (Elt F)}

/-- What the generator leaves at a place whose counter is `(0, c)`, under the key `(0, 42)`. -/
theorem threefry_at {k0 k1 : TRef sig ⟨S_, .i32⟩} {hi lo : TRef sig ⟨S128x100000, .i32⟩} {φ : fn_threefry2x32.Bufs}
    (h : Holds W (fn_threefry2x32.body (F := F) k0 k1 hi lo φ)) (h0 : Is W k0 0#32) (h1 : Is W k1 42#32)
    (i : S128x100000.Idx) (c : BitVec 32) (hhi : val W hi i = 0#32) (hlo : val W lo i = c) :
    Pair W φ.v171 φ.v175 i (late (early c)) := by
  unfold fn_threefry2x32.body at h
  obtain ⟨g0, h⟩ := h.bind
  obtain ⟨g1, h⟩ := h.bind
  obtain ⟨g2, g3⟩ := h.bind
  unfold fn_threefry2x32.body_part0 at g0
  obtain ⟨e1, g0⟩ := next_binary g0
  obtain ⟨e2, g0⟩ := next_nullary g0
  obtain ⟨e3, g0⟩ := next_binary g0
  have h2 : Is W φ.v1 466689008#32 := by
    intro j
    have : val W φ.v1 j = (val W k0 j ^^^ val W k1 j) ^^^ 466688986#32 := by rw [e3, e1, e2]; rfl
    rw [this, h0, h1]
    exact (by decide : (0#32 ^^^ 42#32 ^^^ 466688986#32 : BitVec 32) = 466689008#32)
  obtain ⟨e4, g0⟩ := next_unary g0
  obtain ⟨e5, g0⟩ := next_binary g0
  obtain ⟨e6, g0⟩ := next_unary g0
  obtain ⟨e7, g0⟩ := next_binary g0
  have hp : Pair W φ.v3 φ.v5 i (0#32, c + 42#32) := by
    refine ⟨?_, ?_⟩
    · have f : val W φ.v2 i = 0#32 := by rw [e4]; exact h0 _
      have : val W φ.v3 i = val W hi i + val W φ.v2 i := by rw [e5]; rfl
      rw [this, hhi, f]; rfl
    · have f : val W φ.v4 i = 42#32 := by rw [e6]; exact h1 _
      have : val W φ.v5 i = val W lo i + val W φ.v4 i := by rw [e7]; rfl
      rw [this, hlo, f]
  obtain ⟨hp, g0⟩ := round (by decide) (by decide) hp g0
  obtain ⟨hp, g0⟩ := round (by decide) (by decide) hp g0
  obtain ⟨hp, g0⟩ := round (by decide) (by decide) hp g0
  obtain ⟨hp, g0⟩ := round (by decide) (by decide) hp g0
  obtain ⟨hp, g0⟩ := keyed (w := 466689009#32) h1 h2 rfl hp g0
  obtain ⟨hp, g0⟩ := round (by decide) (by decide) hp g0
  have g0 := g0.tbinary
  unfold fn_threefry2x32.body_part1 at g1
  obtain ⟨hp, g1⟩ := rot (by decide) (by decide) hp g0 g1
  obtain ⟨hp, g1⟩ := round (by decide) (by decide) hp g1
  obtain ⟨hp, g1⟩ := round (by decide) (by decide) hp g1
  obtain ⟨hp, g1⟩ := keyed (w := 2#32) h2 h0 rfl hp g1
  obtain ⟨hp, g1⟩ := round (by decide) (by decide) hp g1
  obtain ⟨hp, g1⟩ := round (by decide) (by decide) hp g1
  obtain ⟨e8, g1⟩ := next_binary g1
  replace hp := rot_end (by decide) (by decide) hp e8 g1
  unfold fn_threefry2x32.body_part2 at g2
  obtain ⟨hp, g2⟩ := round (by decide) (by decide) hp g2
  obtain ⟨hp, g2⟩ := keyed (w := 45#32) h0 h1 rfl hp g2
  obtain ⟨hp, g2⟩ := round (by decide) (by decide) hp g2
  obtain ⟨hp, g2⟩ := round (by decide) (by decide) hp g2
  obtain ⟨hp, g2⟩ := round (by decide) (by decide) hp g2
  obtain ⟨hp, g2⟩ := round (by decide) (by decide) hp g2
  obtain ⟨hp, g2⟩ := keyed (w := 466689012#32) h1 h2 rfl hp g2
  have g2 := g2.tbinary
  unfold fn_threefry2x32.body_part3 at g3
  obtain ⟨hp, g3⟩ := rot (by decide) (by decide) hp g2 g3
  obtain ⟨hp, g3⟩ := round (by decide) (by decide) hp g3
  obtain ⟨hp, g3⟩ := round (by decide) (by decide) hp g3
  obtain ⟨hp, g3⟩ := round (by decide) (by decide) hp g3
  obtain ⟨hp, g3⟩ := keyed (w := 5#32) h2 h0 rfl hp g3
  simp only [late, early, quadA, quadB]
  exact hp

end Cert.ReferenceIdeal.Draw

end
-- ==== Proof.RefArgmax.lean ====
/-
  The reference's arg-max of a row is the first place at which the row attains its maximum.
-/
module

public import proofs.«01_k».proof.ReferenceIdeal
public import proofs.«01_k».proof.Proof.FirstMax
public import Idealize.ShloMosaic.PureOps.Ideal.Laws
public import Idealize.ShloMosaic.Lib.Pointwise

@[expose] public section

noncomputable section

namespace Cert.ReferenceIdeal.Argmax

open Idealize.ShloMosaic

/-- Of two (value, index) pairs the first is the one an arg-max keeps: greater value, or equal value and no greater index. -/
def Beats (p q : EReal × BitVec 32) : Prop := q.1 < p.1 ∨ q.1 = p.1 ∧ p.2.toInt ≤ q.2.toInt

theorem Beats.refl (p : EReal × BitVec 32) : Beats p p := Or.inr ⟨rfl, le_rfl⟩

theorem Beats.trans {p q r : EReal × BitVec 32} (h : Beats p q) (g : Beats q r) : Beats p r := by
  rcases h with h | ⟨h, h'⟩ <;> rcases g with g | ⟨g, g'⟩
  · exact Or.inl (g.trans h)
  · exact Or.inl (g ▸ h)
  · exact Or.inl (h ▸ g)
  · exact Or.inr ⟨g.trans h, h'.trans g'⟩

theorem cmpf_eq (p : CmpFPredicate) (x y : EReal) : FloatOps.cmpf (F := Ideal) (φ := .f32) p x y = Ideal.cmp p x y := rfl

/-- The arg-max's body gives one of its two pairs, and that one beats both. -/
theorem reducer_spec (a b : EReal × BitVec 32) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨x, i⟩ := a
  obtain ⟨y, j⟩ := b
  have e : reducer_argmax_f32_i32 (F := Ideal) (x, i) (y, j)
      = if y < x then (x, i) else if x = y ∧ i.toInt < j.toInt then (x, i) else (y, j) := by
    simp only [reducer_argmax_f32_i32, Scalar.select, IntOp.ori, IntOp.andi, IntOp.cmpi, cmpf_eq, Ideal.cmp]
    by_cases h1 : y < x
    · simp [h1, h1.ne', BitVec.slt]
    · by_cases h2 : x = y
      · by_cases h3 : i.toInt < j.toInt <;> simp [h1, h2, h3, BitVec.slt]
      · simp [h1, h2, BitVec.slt]
  rw [e]
  split
  · next h => exact ⟨Or.inl rfl, Beats.refl _, Or.inl h⟩
  · next h =>
    split
    · next g => exact ⟨Or.inl rfl, Beats.refl _, Or.inr ⟨g.1.symm, g.2.le⟩⟩
    · next g =>
      refine ⟨Or.inr rfl, ?_, Beats.refl _⟩
      rcases (not_lt.mp h).lt_or_eq with l | l
      · exact Or.inl l
      · exact Or.inr ⟨l, not_lt.mp fun m => g ⟨l, m⟩⟩

/-- The fold of a list of pairs is one of them, or the initial pair, and beats them all. -/
theorem foldl_spec (l : List (EReal × BitVec 32)) (a : EReal × BitVec 32) :
    (l.foldl (reducer_argmax_f32_i32 (F := Ideal)) a = a ∨ l.foldl (reducer_argmax_f32_i32 (F := Ideal)) a ∈ l) ∧
      Beats (l.foldl (reducer_argmax_f32_i32 (F := Ideal)) a) a ∧
      ∀ p ∈ l, Beats (l.foldl (reducer_argmax_f32_i32 (F := Ideal)) a) p := by
  induction l generalizing a with
  | nil => exact ⟨Or.inl rfl, Beats.refl _, fun p h => by cases h⟩
  | cons b l ih =>
    obtain ⟨s1, s2, s3⟩ := reducer_spec a b
    obtain ⟨i1, i2, i3⟩ := ih (reducer_argmax_f32_i32 (F := Ideal) a b)
    rw [List.foldl_cons]
    refine ⟨?_, i2.trans s2, fun p hp => ?_⟩
    · rcases i1 with i1 | i1
      · rcases s1 with s1 | s1
        · exact Or.inl (i1.trans s1)
        · exact Or.inr (by rw [i1, s1]; exact List.mem_cons_self)
      · exact Or.inr (List.mem_cons_of_mem _ i1)
    · rcases List.mem_cons.mp hp with rfl | hp
      · exact i2.trans s3
      · exact i3 p hp

/-- Dropping the column of a place leaves its row. -/
theorem drop_at (h : (⟨2, ![128, 100000]⟩ : Shape).ReducesTo [1] ⟨1, ![128]⟩) (i : (⟨2, ![128, 100000]⟩ : Shape).Idx) :
    h.drop i = ix1 (i 0) := by
  funext b
  fin_cases b
  rfl

/-- The arg-max over the columns, from the pair of `-∞` and `0`, is the first place at which the row attains its maximum. -/
theorem argmax_at {u : Shape} (x : FVec Ideal ⟨2, ![128, 100000]⟩ .f32) (ci : IVec ⟨2, ![128, 100000]⟩ 32)
    (hci : ∀ i, ci i = BitVec.ofNat 32 (i 1).val) (a : u.Idx → EReal) (b : IVec u 32) (ha : ∀ i, a i = ⊥) (hb : ∀ i, b i = 0#32)
    (h : (⟨2, ![128, 100000]⟩ : Shape).ReducesTo [1] ⟨1, ![128]⟩) (hu : 0 < u.numel) (r : Fin 128) (y : ℕ → EReal)
    (hy : ∀ k : Fin 100000, y k.val = x (ix2 r k)) :
    ∃ M, FirstMax y 0 100000 M (Host.argReduce (F := Ideal) (reducer_argmax_f32_i32 (F := Ideal)) x ci a b h hu (ix1 r)).2 := by
  rw [Ideal.argReduce_eq_reduce2, Host.reduce2_eq_foldl_fiber, ha, hb]
  have mem : ∀ p, p ∈ Host.argReduceFiber x ci h (ix1 r) ↔ ∃ k : Fin 100000, p = (y k.val, BitVec.ofNat 32 k.val) := by
    intro p
    rw [Host.argReduceFiber, List.mem_map]
    constructor
    · rintro ⟨n, hn, rfl⟩
      rw [List.mem_filter, decide_eq_true_eq] at hn
      generalize (⟨2, ![128, 100000]⟩ : Shape).rowMajor.symm n = i at hn
      refine ⟨i 1, ?_⟩
      have e0 : i 0 = r := by
        have := hn.2
        rw [drop_at] at this
        exact congrFun this 0
      have e : i = ix2 r (i 1) := by
        funext c
        fin_cases c
        · exact e0
        · rfl
      exact Prod.ext ((congrArg x e).trans (hy (i 1)).symm) (hci i)
    · rintro ⟨k, rfl⟩
      refine ⟨(⟨2, ![128, 100000]⟩ : Shape).rowMajor (ix2 r k), ?_, ?_⟩
      · rw [List.mem_filter, decide_eq_true_eq]
        exact ⟨List.mem_finRange _, by rw [Equiv.symm_apply_apply, drop_at]; rfl⟩
      · rw [Equiv.symm_apply_apply, hci, hy k]; rfl
  obtain ⟨s1, s2, s3⟩ := foldl_spec (Host.argReduceFiber x ci h (ix1 r)) (⊥, 0#32)
  generalize (Host.argReduceFiber x ci h (ix1 r)).foldl (reducer_argmax_f32_i32 (F := Ideal)) (⊥, 0#32) = p at s1 s2 s3
  have toInt : ∀ k, k < 100000 → (BitVec.ofNat 32 k).toInt = (k : ℤ) := by
    intro k hk
    rw [BitVec.toInt_eq_toNat_of_lt (by rw [BitVec.toNat_ofNat]; omega), BitVec.toNat_ofNat, Nat.mod_eq_of_lt (by omega)]
  have best : ∀ k, k < 100000 → Beats p (y k, BitVec.ofNat 32 k) := fun k hk => s3 _ ((mem _).mpr ⟨⟨k, hk⟩, rfl⟩)
  obtain ⟨k, hk, hp⟩ : ∃ k, k < 100000 ∧ p = (y k, BitVec.ofNat 32 k) := by
    rcases s1 with rfl | s1
    · refine ⟨0, by omega, ?_⟩
      rcases best 0 (by omega) with b | ⟨b, _⟩
      · exact absurd b not_lt_bot
      · exact Prod.ext b.symm rfl
    · obtain ⟨k, hk⟩ := (mem _).mp s1
      exact ⟨k.val, k.isLt, hk⟩
  subst hp
  refine ⟨y k, k, Nat.zero_le _, hk, rfl, rfl, fun j _ hj => ?_, fun j _ hj => ?_⟩
  · rcases best j hj with b | ⟨b, _⟩
    · exact b.le
    · exact b.le
  · rcases best j (by omega) with b | ⟨_, b⟩
    · exact b
    · simp only [toInt k hk, toInt j (by omega)] at b
      omega

end Cert.ReferenceIdeal.Argmax

end
-- ==== Proof.RefSoftmax.lean ====
/-
  What the reference's called functions leave, at a row and a column: its log-softmax, softmax and arg-max.
-/
module

public import proofs.«01_k».proof.Proof.RefDraw
public import proofs.«01_k».proof.Proof.RefArgmax

@[expose] public section

noncomputable section

namespace Cert.ReferenceIdeal.Soft

open Idealize.ShloMosaic Idealize.ShloMosaic.TcCoe Idealize.ShloMosaic.StableHlo Idealize.SL.Sem
open Cert.ReferenceIdeal Cert.Straight Cert.ReferenceIdeal.Draw
open Facts Facts₀

variable [Facts]

/-- Each row's greatest logit. -/
def rowMax (x : FVec Ideal S128x100000 .f32) : FVec Ideal S128 .f32 :=
  Host.reduce FloatOps.maximumf x (constant S_ .f32 0xFF800000#32) reducesTo_S128x100000_S128_d1 h_S_

/-- A number for each row, taken from the row. -/
def lessRow (x : FVec Ideal S128x100000 .f32) (y : FVec Ideal S128 .f32) : FVec Ideal S128x100000 .f32 :=
  subf x (broadcastInDim S128x100000 ![0, 1] bcast_S128x1_S128x100000_0_1 (broadcastInDim S128x1 ![0] bcast_S128_S128x1_0
    (maximumf (broadcastInDim S128 ![] bcast_S_S128 (constant S_ .f32 0xFF800000#32)) y)))

/-- The logits less their row's maximum. -/
def shifted (x : FVec Ideal S128x100000 .f32) : FVec Ideal S128x100000 .f32 := lessRow x (rowMax x)

/-- A row's sum of exponentials. -/
def total (z : FVec Ideal S128x100000 .f32) : FVec Ideal S128x1 .f32 :=
  broadcastInDim S128x1 ![0] bcast_S128_S128x1_0
    (Host.reduceAdd z (constant S_ .f32 0x00000000#32) reducesTo_S128x100000_S128_d1 h_S_)

/-- The logarithm of a number for each row, taken from the row. -/
def lessLog (z : FVec Ideal S128x100000 .f32) (t : FVec Ideal S128x1 .f32) : FVec Ideal S128x100000 .f32 :=
  subf z (broadcastInDim S128x100000 ![0, 1] bcast_S128x1_S128x100000_0_1 (Host.log t))

/-- The row divided by a number for each row. -/
def overRow (z : FVec Ideal S128x100000 .f32) (t : FVec Ideal S128x1 .f32) : FVec Ideal S128x100000 .f32 :=
  Host.divf z (broadcastInDim S128x100000 ![0, 1] bcast_S128x1_S128x100000_0_1 t)

/-- The log-softmax of the logits. -/
def logSoftmax (x : FVec Ideal S128x100000 .f32) : FVec Ideal S128x100000 .f32 :=
  lessLog (shifted x) (total (Host.exp (shifted x)))

/-- The softmax of the logits. -/
def softmax (x : FVec Ideal S128x100000 .f32) : FVec Ideal S128x100000 .f32 :=
  overRow (Host.exp (shifted x)) (total (Host.exp (shifted x)))

/-- The greatest logit of a row. -/
def top (x : FVec Ideal S128x100000 .f32) (r : Fin 128) : EReal :=
  max ⊥ (Finset.univ.fold max ⊥ fun k : Fin 100000 => (x (ix2 r k) : EReal))

theorem ofBits_negInf : Ideal.ofBits .f32 0xFF800000#32 = ⊥ := by
  simp [Ideal.ofBits, Ideal.ieee]

theorem rowMax_at (x : FVec Ideal S128x100000 .f32) (r : Fin 128) :
    rowMax x (ix1 r) = Finset.univ.fold max ⊥ fun k : Fin 100000 => (x (ix2 r k) : EReal) := by
  unfold rowMax
  pointwise [ofBits_negInf]

theorem lessRow_at (x : FVec Ideal S128x100000 .f32) (y : FVec Ideal S128 .f32) (r : Fin 128) (k : Fin 100000) :
    lessRow x y (ix2 r k) = x (ix2 r k) - max ⊥ (y (ix1 r)) := by
  unfold lessRow
  pointwise [ofBits_negInf]

theorem shifted_at (x : FVec Ideal S128x100000 .f32) (r : Fin 128) (k : Fin 100000) :
    shifted x (ix2 r k) = x (ix2 r k) - top x r := by
  rw [shifted, lessRow_at, rowMax_at, top]

theorem total_at (z : FVec Ideal S128x100000 .f32) (r : Fin 128) :
    total z (ix2 r 0) = ∑ k : Fin 100000, (z (ix2 r k) : EReal) := by
  unfold total
  pointwise

theorem lessLog_at (z : FVec Ideal S128x100000 .f32) (t : FVec Ideal S128x1 .f32) (r : Fin 128) (k : Fin 100000) :
    lessLog z t (ix2 r k) = z (ix2 r k) - Ideal.log (t (ix2 r 0)) := by
  unfold lessLog
  pointwise

theorem overRow_at (z : FVec Ideal S128x100000 .f32) (t : FVec Ideal S128x1 .f32) (r : Fin 128) (k : Fin 100000) :
    overRow z t (ix2 r k) = Ideal.div (z (ix2 r k)) (t (ix2 r 0)) := by
  unfold overRow
  pointwise

theorem exp_at (z : FVec Ideal S128x100000 .f32) (i : S128x100000.Idx) : Host.exp z i = Ideal.exp (z i) := rfl

/-- A row's sum of exponentials of the logits less the greatest. -/
def weight (x : FVec Ideal S128x100000 .f32) (r : Fin 128) : EReal := ∑ j : Fin 100000, Ideal.exp (x (ix2 r j) - top x r)

theorem weight_at (x : FVec Ideal S128x100000 .f32) (r : Fin 128) : total (Host.exp (shifted x)) (ix2 r 0) = weight x r := by
  rw [total_at, weight]
  exact Finset.sum_congr rfl fun k _ => by rw [exp_at, shifted_at]

theorem logSoftmax_at (x : FVec Ideal S128x100000 .f32) (r : Fin 128) (k : Fin 100000) :
    logSoftmax x (ix2 r k) = (x (ix2 r k) - top x r) - Ideal.log (weight x r) := by
  rw [logSoftmax, lessLog_at, weight_at, shifted_at]

theorem softmax_at (x : FVec Ideal S128x100000 .f32) (r : Fin 128) (k : Fin 100000) :
    softmax x (ix2 r k) = Ideal.div (Ideal.exp (x (ix2 r k) - top x r)) (weight x r) := by
  rw [softmax, overRow_at, weight_at, exp_at, shifted_at]

variable {W : Valuation τ sig (Elt Ideal)}

/-- The call of the log-softmax leaves the log-softmax of its argument. -/
theorem logSoftmax_call {x : TRef sig ⟨S128x100000, .f32⟩} {φ : fn_log_softmax.Bufs}
    (h : Holds W (fn_log_softmax.body (F := Ideal) x φ)) : val W φ.v11 = logSoftmax (val W x) := by
  unfold fn_log_softmax.body at h
  obtain ⟨e1, h⟩ := next_nullary h
  obtain ⟨e2, h⟩ := next_binary h
  obtain ⟨e3, h⟩ := next_nullary h
  obtain ⟨e4, h⟩ := next_unary h
  obtain ⟨e5, h⟩ := next_binary h
  obtain ⟨e6, h⟩ := next_unary h
  obtain ⟨e7, h⟩ := next_unary h
  obtain ⟨e8, h⟩ := next_binary h
  obtain ⟨e9, h⟩ := next_unary h
  obtain ⟨e10, h⟩ := next_nullary h
  obtain ⟨e11, h⟩ := next_binary h
  obtain ⟨e12, h⟩ := next_unary h
  obtain ⟨e13, h⟩ := next_unary h
  obtain ⟨e14, h⟩ := next_unary h
  obtain ⟨e15, h⟩ := next_binary h
  have hs : val W φ.v5 = shifted (val W x) := by rw [e8, e7, e6, e5, e4, e3, e2, e1]; rfl
  have ht : val W φ.v8 = total (Host.exp (shifted (val W x))) := by rw [e12, e11, e10, e9, hs]; rfl
  rw [e15, e14, e13, ht, hs]; rfl

/-- The call of the arg-max leaves the first place at which its argument's row attains its maximum. -/
theorem argmax_call {x : TRef sig ⟨S128x100000, .f32⟩} {φ : fn_argmax.Bufs} (h : Holds W (fn_argmax.body (F := Ideal) x φ))
    (r : Fin 128) (y : ℕ → EReal) (hy : ∀ k : Fin 100000, y k.val = val W x (ix2 r k)) :
    ∃ M, FirstMax y 0 100000 M (val W φ.v1_1 (ix1 r)) := by
  unfold fn_argmax.body at h
  obtain ⟨e1, h⟩ := next_nullary h
  obtain ⟨e2, h⟩ := next_nullary h
  obtain ⟨e3, h⟩ := next_nullary h
  obtain ⟨_, h⟩ := h.bind
  obtain ⟨h, -⟩ := h.bind
  have e5 := h.tquaternary
  rw [e5]
  refine Argmax.argmax_at (val W x) (val W φ.v0) (fun i => ?_) (val W φ.cst) (val W φ.c) (fun i => ?_) (fun i => ?_) _ _ r y hy
  · rw [e1]; rfl
  · rw [e2]; exact ofBits_negInf
  · rw [e3]; rfl

end Cert.ReferenceIdeal.Soft

end
-- ==== Proof.RefTake.lean ====
/-
  The reference's look-up of a row's value at the row's action.
-/
module

public import proofs.«01_k».proof.Proof.RefSoftmax

@[expose] public section

noncomputable section

namespace Cert.ReferenceIdeal.Take

open Idealize.ShloMosaic Idealize.ShloMosaic.TcCoe Idealize.ShloMosaic.StableHlo Idealize.SL.Sem
open Cert.ReferenceIdeal Cert.Straight Cert.ReferenceIdeal.Draw
open Facts Facts₀

variable [Facts]

theorem toInt_col (k : Fin 100000) : (BitVec.ofNat 32 k.val).toInt = (k.val : ℤ) := by
  have hk := k.isLt
  rw [BitVec.toInt_eq_toNat_of_lt (by rw [BitVec.toNat_ofNat]; omega), BitVec.toNat_ofNat, Nat.mod_eq_of_lt (by omega)]

/-- The gather takes from row `r` the column its index names. -/
theorem gather_at (x : FVec Ideal S128x100000 .f32) (v : IVec S128x1x1 32) (r : Fin 128) (k : Fin 100000)
    (hv : v (ix3 r 0 0) = BitVec.ofNat 32 k.val) :
    Host.gather gather_S128x100000_S128x1x1_S128x1_n_1_0_0_1_2_11 x v (ix2 r 0) = x (ix2 r k) := by
  have hk := k.isLt
  have hint : (v (ix3 r 0 0)).toInt.toNat = k.val := by rw [hv, toInt_col]; rfl
  have hsi : ∀ h, gather_S128x100000_S128x1x1_S128x1_n_1_0_0_1_2_11.siIdx (ix2 r 0) ⟨0, h⟩ = ix3 r 0 0 := by
    intro h
    funext a
    fin_cases a <;> rfl
  refine congrArg x (funext fun a => Fin.ext ?_)
  match a with
  | ⟨0, _⟩ =>
    show 0 + r.val + 0 = r.val
    omega
  | ⟨1, _⟩ =>
    refine (congrArg (fun q => min (v q).toInt.toNat (100000 - 1) + 0 + 0) (hsi Nat.one_pos)).trans ?_
    show _ = k.val
    rw [hint]; omega

/-- The index the look-up reads, with a negative one counted from the end. -/
def wrapped (a : IVec S128x1 32) : IVec S128x1x1 32 :=
  shapeCast S128x1x1 (select (cmpi .slt a (broadcastInDim S128x1 ![] bcast_S_S128x1 (constantI S_ 32 0#32)))
    (addi a (broadcastInDim S128x1 ![] bcast_S_S128x1 (constantI S_ 32 100000#32))) a) shapeCasts_S128x1_S128x1x1

/-- Whether the index is one of the row's columns. -/
def within (v : IVec S128x1x1 32) : IVec S128x1 1 :=
  Host.reduce IntOp.andi (andi (cmpi .sge v (broadcastInDim S128x1x1 ![] bcast_S_S128x1x1 (constantI S_ 32 0#32)))
    (cmpi .sle v (broadcastInDim S128x1x1 ![0, 1, 2] bcast_S1x1x1_S128x1x1_0_1_2
      (broadcastInDim S1x1x1 ![2] bcast_S1_S1x1x1_2 (constantI S1 32 99999#32)))))
    (constantI S_ 1 1#1) reducesTo_S128x1x1_S128x1_d2 h_S_

theorem slt_zero (k : Fin 100000) : IntOp.cmpi .slt (BitVec.ofNat 32 k.val) 0#32 = 0#1 := by
  have h : ¬ ((BitVec.ofNat 32 k.val).toInt < 0) := by rw [toInt_col]; omega
  simp [IntOp.cmpi, BitVec.slt, h]

theorem sge_zero (k : Fin 100000) : IntOp.cmpi .sge (BitVec.ofNat 32 k.val) 0#32 = 1#1 := by
  have h : 0 ≤ (BitVec.ofNat 32 k.val).toInt := by rw [toInt_col]; omega
  simp [IntOp.cmpi, BitVec.sle, h]

theorem sle_last (k : Fin 100000) : IntOp.cmpi .sle (BitVec.ofNat 32 k.val) 99999#32 = 1#1 := by
  have h : (BitVec.ofNat 32 k.val).toInt ≤ 99999 := by rw [toInt_col]; omega
  simp [IntOp.cmpi, BitVec.sle, h]

theorem wrapped_at (a : IVec S128x1 32) (r : Fin 128) (k : Fin 100000) (ha : a (ix2 r 0) = BitVec.ofNat 32 k.val) :
    wrapped a (ix3 r 0 0) = BitVec.ofNat 32 k.val := by
  unfold wrapped
  pointwise
  rw [ha, slt_zero k]
  rfl

theorem within_at (v : IVec S128x1x1 32) (r : Fin 128) (k : Fin 100000) (hv : v (ix3 r 0 0) = BitVec.ofNat 32 k.val) :
    within v (ix2 r 0) = 1#1 := by
  unfold within
  pointwise
  rw [Finset.univ_unique, Finset.fold_singleton]
  show IntOp.andi (IntOp.andi (IntOp.cmpi .sge (v (ix3 r 0 0)) 0#32) (IntOp.cmpi .sle (v (ix3 r 0 0)) 99999#32)) 1#1 = 1#1
  rw [hv, sge_zero k, sle_last k]
  rfl

variable {W : Valuation τ sig (Elt Ideal)}

/-- At an action that is a column the call leaves the row's value there. -/
theorem take_call {x : TRef sig ⟨S128x100000, .f32⟩} {a : TRef sig ⟨S128x1, .i32⟩} {φ : fn_take_along_axis.Bufs}
    (h : Holds W (fn_take_along_axis.body (F := Ideal) x a φ)) (r : Fin 128) (k : Fin 100000)
    (ha : val W a (ix2 r 0) = BitVec.ofNat 32 k.val) : val W φ.v15 (ix2 r 0) = val W x (ix2 r k) := by
  unfold fn_take_along_axis.body at h
  obtain ⟨e1, h⟩ := next_nullary h
  obtain ⟨e2, h⟩ := next_unary h
  obtain ⟨e3, h⟩ := next_binary h
  obtain ⟨e4, h⟩ := next_nullary h
  obtain ⟨e5, h⟩ := next_unary h
  obtain ⟨e6, h⟩ := next_binary h
  obtain ⟨e7, h⟩ := h.bind
  replace e7 := e7.tternary
  obtain ⟨e8, h⟩ := h.bind
  replace e8 : val W φ.v5 = wrapped (val W a) := by
    rw [wrapped, ← e1, ← e4, ← e2, ← e5, ← e3, ← e6, ← e7]
    exact e8.treshape
  obtain ⟨e9, h⟩ := next_nullary h
  obtain ⟨e10, h⟩ := next_nullary h
  obtain ⟨e11, h⟩ := next_unary h
  obtain ⟨e12, h⟩ := next_binary h
  obtain ⟨e13, h⟩ := next_unary h
  obtain ⟨e14, h⟩ := next_unary h
  obtain ⟨e15, h⟩ := next_binary h
  obtain ⟨e16, h⟩ := next_binary h
  obtain ⟨e17, h⟩ := next_nullary h
  obtain ⟨e18, h⟩ := next_binary h
  obtain ⟨e19, h⟩ := next_binary h
  obtain ⟨_, h⟩ := next_nullary h
  obtain ⟨_, h⟩ := next_unary h
  obtain ⟨e22, -⟩ := h.bind
  replace e22 := e22.tternary
  have hw : val W φ.v12 = within (val W φ.v5) := by
    rw [within, ← e17, ← e9, ← e10, ← e11, ← e12, ← e13, ← e14, ← e15, ← e16]
    exact e18
  have hv : val W φ.v5 (ix3 r 0 0) = BitVec.ofNat 32 k.val := by rw [e8]; exact wrapped_at _ r k ha
  have h1 : val W φ.v12 (ix2 r 0) = 1#1 := by rw [hw]; exact within_at _ r k hv
  have h2 : val W φ.v13 (ix2 r 0) = val W x (ix2 r k) := by rw [e19]; exact gather_at _ _ r k hv
  rw [← h2, e22]
  exact if_pos h1

end Cert.ReferenceIdeal.Take

end
-- ==== Proof.RefMain.lean ====
/-
  The reference's own lines: what they make of the called functions' results.
-/
module

public import proofs.«01_k».proof.Proof.RefTake
public import proofs.«01_k».proof.Proof.Rows

@[expose] public section

set_option maxRecDepth 16384

noncomputable section

namespace Cert.ReferenceIdeal.Main

open Idealize.ShloMosaic Idealize.ShloMosaic.TcCoe Idealize.ShloMosaic.StableHlo Idealize.SL.Sem
open Cert.ReferenceIdeal Cert.Straight Cert.ReferenceIdeal.Draw Cert.ReferenceIdeal.Soft
open Facts Facts₀

section Lines

variable {F : FTy → Type} [FloatOps F] {Λ : Labels} {n : Nat} {W : Valuation τ sig (Elt F)} {q : Code F n Λ}
  {x y a b : Ref sig .tc}

/-- One line's equation and the rest of the program. -/
theorem line_nullary {v : y.ty.Contents (Elt F)} {hd}
    (h : Holds W ((hlo rfl (nullary y v hd) fun _ => .ret ⟨⟩ : Code F n Λ) >>= fun _ => q)) :
    W (Proc.devRef .tc y) = v ∧ Holds W q :=
  ⟨h.bind.1.nullary, h.bind.2⟩

theorem line_unary {f : x.ty.Contents (Elt F) → y.ty.Contents (Elt F)} {hx hd}
    (h : Holds W ((hlo rfl (unary x y f hx hd) fun _ => .ret ⟨⟩ : Code F n Λ) >>= fun _ => q)) :
    W (Proc.devRef .tc y) = f (W (Proc.devRef .tc x)) ∧ Holds W q :=
  ⟨h.bind.1.unary, h.bind.2⟩

theorem line_binary {f : a.ty.Contents (Elt F) → b.ty.Contents (Elt F) → y.ty.Contents (Elt F)} {ha hb hd}
    (h : Holds W ((hlo rfl (binary a b y f ha hb hd) fun _ => .ret ⟨⟩ : Code F n Λ) >>= fun _ => q)) :
    W (Proc.devRef .tc y) = f (W (Proc.devRef .tc a)) (W (Proc.devRef .tc b)) ∧ Holds W q :=
  ⟨h.bind.1.binary, h.bind.2⟩

theorem line_reshape {he hn hx hd}
    (h : Holds W ((hlo rfl (reshape x y he hn hx hd) fun _ => .ret ⟨⟩ : Code F n Λ) >>= fun _ => q)) :
    (W (Proc.devRef .tc y) = fun i => he ▸ shapeCast y.ty.shape (W (Proc.devRef .tc x)) hn i) ∧ Holds W q :=
  ⟨h.bind.1.reshape, h.bind.2⟩

end Lines

variable [Facts]

/-- A column of one number for each row, from a row of them. -/
def column {α : Type} (v : S128.Idx → α) : S128x1.Idx → α := broadcastInDim S128x1 ![0] bcast_S128_S128x1_0 v

theorem column_at {α : Type} (v : S128.Idx → α) (r : Fin 128) : column v (ix2 r 0) = v (ix1 r) := by
  unfold column
  pointwise

/-- Summing the one column. -/
def summed (v : FVec Ideal S128x1 .f32) : FVec Ideal S128 .f32 :=
  Host.reduceAdd v (constant S_ .f32 0x00000000#32) reducesTo_S128x1_S128_d1 h_S_

theorem summed_at (v : FVec Ideal S128x1 .f32) (r : Fin 128) : summed v (ix1 r) = v (ix2 r 0) := by
  unfold summed
  pointwise
  simp

/-- The two words of the key. -/
def keyWords : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The place of an element in row-major order. -/
def place : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- Its upper word. -/
def upper (p : IVec S128x100000 64) : IVec S128x100000 32 :=
  trunci 32 (Host.shrui p (broadcastInDim S128x100000 ![] bcast_S_S128x100000 (constantI S_ 64 32#64))) natLt_32_64

/-- The uniform numbers' patterns, made of two words each. -/
def bitsOf (u v : IVec S128x100000 32) : FVec Ideal S128x100000 .f32 :=
  bitcastToFloat .f32 (ori (Host.shrui (xori u v) (broadcastInDim S128x100000 ![] bcast_S_S128x100000 (constantI S_ 32 9#32)))
    (broadcastInDim S128x100000 ![] bcast_S_S128x100000 (constantI S_ 32 1065353216#32)))

/-- A number at every place. -/
def everywhere (b : BitVec 32) : FVec Ideal S128x100000 .f32 :=
  broadcastInDim S128x100000 ![] bcast_S_S128x100000 (constant S_ .f32 b)

/-- The uniform numbers. -/
def uniform (z : FVec Ideal S128x100000 .f32) : FVec Ideal S128x100000 .f32 :=
  maximumf (everywhere 0x00800000#32)
    (addf (mulf (subf z (everywhere 0x3F800000#32)) (everywhere 0x3F800000#32)) (everywhere 0x00800000#32))

/-- The perturbed logits. -/
def noisy (z x : FVec Ideal S128x100000 .f32) : FVec Ideal S128x100000 .f32 :=
  addf (Host.negf (Host.log (Host.negf (Host.log (uniform z))))) x

variable {W : Valuation τ sig (Elt Ideal)} {d : Dev nD}

/-- The buffer's contents as the values they are. -/
theorem lines (h : Holds W (main (F := Ideal) d)) :
    Holds W (fn_log_softmax.body (F := Ideal) (.of main_arg0) main_call0)
      ∧ Holds W (fn_take_along_axis.body (F := Ideal) (.of main_v0) (.of main_arg1) main_call1)
      ∧ Holds W (fn_argmax.body (F := Ideal) (.of main_v14) main_call2)
      ∧ Holds W (fn_threefry2x32.body (F := Ideal) (.of main_v25) (.of main_v27) (.of main_v38) (.of main_v37) main_call3)
      ∧ Holds W (fn_argmax.body (F := Ideal) (.of main_v58) main_call4)
      ∧ W (Proc.devRef .tc main_v3) = column (summed (W (Proc.devRef .tc main_v1)))
      ∧ W (Proc.devRef .tc main_v14) = softmax (W (Proc.devRef .tc main_arg0))
      ∧ W (Proc.devRef .tc main_v16) = column (α := BitVec 32) (W (Proc.devRef .tc main_v15))
      ∧ W (Proc.devRef .tc main_v25) = shapeCast S_ (extractStridedSlice S1 ![0] keyWords slices_S2_S1_0) shapeCasts_S1_S_
      ∧ W (Proc.devRef .tc main_v27) = shapeCast S_ (extractStridedSlice S1 ![1] keyWords slices_S2_S1_1) shapeCasts_S1_S_
      ∧ W (Proc.devRef .tc main_v37) = trunci 32 place natLt_32_64
      ∧ W (Proc.devRef .tc main_v38) = upper place
      ∧ W (Proc.devRef .tc main_v58) = noisy (bitsOf (W (Proc.devRef .tc main_v39_0)) (W (Proc.devRef .tc main_v39_1)))
          (W (Proc.devRef .tc main_arg0))
      ∧ W (Proc.devRef .tc main_v60) = column (α := BitVec 32) (W (Proc.devRef .tc main_v59)) := by
  unfold main at h
  obtain ⟨h, g⟩ := h.bind
  unfold main_part0 at h
  obtain ⟨c0, h⟩ := h.bind
  obtain ⟨c1, h⟩ := h.bind
  obtain ⟨e0, h⟩ := line_nullary h
  obtain ⟨e2, h⟩ := line_binary h
  obtain ⟨e3, h⟩ := line_unary h
  obtain ⟨f0, h⟩ := line_nullary h
  obtain ⟨e4, h⟩ := line_binary h
  obtain ⟨f1, h⟩ := line_nullary h
  obtain ⟨e5, h⟩ := line_unary h
  obtain ⟨e6, h⟩ := line_binary h
  obtain ⟨e7, h⟩ := line_unary h
  obtain ⟨e8, h⟩ := line_unary h
  obtain ⟨e9, h⟩ := line_binary h
  obtain ⟨e10, h⟩ := line_unary h
  obtain ⟨f2, h⟩ := line_nullary h
  obtain ⟨e11, h⟩ := line_binary h
  obtain ⟨e12, h⟩ := line_unary h
  obtain ⟨e13, h⟩ := line_unary h
  obtain ⟨e14, h⟩ := line_binary h
  obtain ⟨c2, h⟩ := h.bind
  obtain ⟨e16, h⟩ := line_unary h
  obtain ⟨k0, h⟩ := line_nullary h
  obtain ⟨k3, h⟩ := line_nullary h
  obtain ⟨e17, h⟩ := line_binary h
  obtain ⟨e18, h⟩ := line_unary h
  obtain ⟨e19, h⟩ := line_unary h
  obtain ⟨k4, h⟩ := line_nullary h
  obtain ⟨e20, h⟩ := line_binary h
  obtain ⟨e21, h⟩ := line_unary h
  obtain ⟨e22, h⟩ := line_unary h
  obtain ⟨e23, h⟩ := line_binary h
  obtain ⟨e24, h⟩ := line_unary h
  obtain ⟨e25, h⟩ := line_reshape h
  obtain ⟨e26, h⟩ := line_unary h
  obtain ⟨e27, h⟩ := line_reshape h
  obtain ⟨e28, h⟩ := line_nullary h
  obtain ⟨e29, h⟩ := line_nullary h
  obtain ⟨k5, h⟩ := line_nullary h
  obtain ⟨e30, h⟩ := line_unary h
  obtain ⟨e31, h⟩ := line_binary h
  obtain ⟨k6, h⟩ := line_nullary h
  obtain ⟨e32, h⟩ := line_unary h
  obtain ⟨e33, h⟩ := line_binary h
  obtain ⟨e34, h⟩ := line_binary h
  obtain ⟨k7, h⟩ := line_nullary h
  obtain ⟨e35, h⟩ := line_unary h
  obtain ⟨e36, h⟩ := line_binary h
  obtain ⟨e37, h⟩ := line_unary h
  obtain ⟨e38, h⟩ := line_unary h
  obtain ⟨c3, h⟩ := h.bind
  obtain ⟨e40, h⟩ := line_binary h
  obtain ⟨k8, h⟩ := line_nullary h
  obtain ⟨e41, h⟩ := line_unary h
  obtain ⟨e42, h⟩ := line_binary h
  obtain ⟨k9, h⟩ := line_nullary h
  obtain ⟨e43, h⟩ := line_unary h
  obtain ⟨e44, h⟩ := line_binary h
  obtain ⟨e45, h⟩ := line_unary h
  obtain ⟨k10, h⟩ := line_nullary h
  have e46 := h.unary
  unfold main_part1 at g
  obtain ⟨e47, g⟩ := line_binary g
  obtain ⟨k11, g⟩ := line_nullary g
  obtain ⟨e48, g⟩ := line_unary g
  obtain ⟨e49, g⟩ := line_binary g
  obtain ⟨k12, g⟩ := line_nullary g
  obtain ⟨e50, g⟩ := line_unary g
  obtain ⟨e51, g⟩ := line_binary g
  obtain ⟨k13, g⟩ := line_nullary g
  obtain ⟨e52, g⟩ := line_unary g
  obtain ⟨e53, g⟩ := line_binary g
  obtain ⟨e54, g⟩ := line_unary g
  obtain ⟨e55, g⟩ := line_unary g
  obtain ⟨e56, g⟩ := line_unary g
  obtain ⟨e57, g⟩ := line_unary g
  obtain ⟨e58, g⟩ := line_binary g
  obtain ⟨c4, g⟩ := g.bind
  obtain ⟨e60, -⟩ := line_unary g
  have s9 : W (Proc.devRef .tc main_v9) = shifted (W (Proc.devRef .tc main_arg0)) := by
    rw [e9, e8, e7, e6, e5, f1, e4, f0]; rfl
  have s12 : W (Proc.devRef .tc main_v12) = total (W (Proc.devRef .tc main_v10)) := by
    rw [e12, e11, f2]; rfl
  have s23 : W (Proc.devRef .tc main_v23) = keyWords := by
    rw [e23, e22, e21, e20, k4, e19, e18, e17, k3, k0]; rfl
  have s34 : W (Proc.devRef .tc main_v34) = place := by
    rw [e34, e33, e32, k6, e31, e30, k5, e29, e28]; rfl
  have s45 : W (Proc.devRef .tc main_v45) = bitsOf (W (Proc.devRef .tc main_v39_0)) (W (Proc.devRef .tc main_v39_1)) := by
    rw [e45, e44, e43, k9, e42, e41, k8, e40]; rfl
  have s53 : W (Proc.devRef .tc main_v53) = uniform (W (Proc.devRef .tc main_v45)) := by
    rw [e53, e52, k13, e51, e50, k12, e49, e48, k11, e47, e46, k10]; rfl
  refine ⟨c0, c1, c2, c3, c4, ?_, ?_, e16, ?_, ?_, ?_, ?_, ?_, e60⟩
  · rw [e3, e2, e0]; rfl
  · rw [e14, e13, s12, e10, s9]; rfl
  · rw [e25, e24, s23]; rfl
  · rw [e27, e26, s23]; rfl
  · rw [e37, s34]
  · rw [e38, e36, e35, k7, s34]; rfl
  · rw [e58, e57, e56, e55, e54, s53, s45]; rfl

end Cert.ReferenceIdeal.Main

end
-- ==== Proof.RefResult.lean ====
/-
  The reference's three results, row by row.
-/
module

public import proofs.«01_k».proof.Proof.RefMain
public import proofs.«01_k».proof.Proof.Results

@[expose] public section

set_option maxRecDepth 16384

noncomputable section

namespace Cert.ReferenceIdeal.Result

open Idealize.ShloMosaic Idealize.ShloMosaic.TcCoe Idealize.ShloMosaic.StableHlo Idealize.SL.Sem
open Cert.ReferenceIdeal Cert.Straight Cert.ReferenceIdeal.Draw Cert.ReferenceIdeal.Soft Cert.ReferenceIdeal.Main Cert.Draw
open Facts Facts₀

variable [Facts]

/-- The key's first word. -/
theorem key0 (i : S_.Idx) : shapeCast S_ (extractStridedSlice S1 ![0] keyWords slices_S2_S1_0) shapeCasts_S1_S_ i = 0#32 := by
  unfold keyWords
  pointwise
  decide

/-- The key's second word. -/
theorem key1 (i : S_.Idx) : shapeCast S_ (extractStridedSlice S1 ![1] keyWords slices_S2_S1_1) shapeCasts_S1_S_ i = 42#32 := by
  unfold keyWords
  pointwise
  decide

theorem place_at (r : Fin 128) (k : Fin 100000) : place (ix2 r k) = BitVec.ofNat 64 (100000 * r.val + k.val) := by
  unfold place
  pointwise
  simp [IntOp.addi, IntOp.muli, BitVec.ofNat_add, BitVec.ofNat_mul]

theorem upper_at (p : IVec S128x100000 64) (i : S128x100000.Idx) (h : (p i).toNat < 2 ^ 32) : upper p i = 0#32 := by
  unfold upper
  pointwise
  have e : IntOp.shrui .host (p i) 32#64 = p i >>> 32#64 := if_pos (by decide)
  rw [e]
  apply BitVec.eq_of_toNat_eq
  simp only [BitVec.toNat_setWidth, BitVec.ushiftRight_eq', BitVec.toNat_ushiftRight, BitVec.toNat_ofNat, Nat.shiftRight_eq_div_pow]
  rw [Nat.div_eq_of_lt (by simpa using h)]

theorem lower_at (p : IVec S128x100000 64) (i : S128x100000.Idx) (n : ℕ) (h : p i = BitVec.ofNat 64 n) :
    trunci 32 p natLt_32_64 i = BitVec.ofNat 32 n := by
  pointwise
  rw [h]
  apply BitVec.eq_of_toNat_eq
  simp only [BitVec.toNat_setWidth, BitVec.toNat_ofNat]
  omega

theorem bitsOf_at (u v : IVec S128x100000 32) (i : S128x100000.Idx) :
    bitsOf u v i = Ideal.ofBits .f32 ((u i ^^^ v i) >>> 9#32 ||| 0x3F800000#32) := by
  unfold bitsOf
  pointwise
  rw [shrui_lt _ _ _ (by decide)]
  rfl

theorem uniform_at (z : FVec Ideal S128x100000 .f32) (i : S128x100000.Idx) : uniform z i =
    max (Ideal.ofBits .f32 0x00800000#32) (((z i : EReal) - 1) * 1 + Ideal.ofBits .f32 0x00800000#32) := by
  unfold uniform everywhere
  pointwise

theorem noisy_at (z x : FVec Ideal S128x100000 .f32) (i : S128x100000.Idx) :
    noisy z x i = -Ideal.log (-Ideal.log (uniform z i)) + x i := rfl

/-- The largest entry of a row is its maximum. -/
theorem top_eq (x : FVec Ideal S128x100000 .f32) (r : Fin 128) : top x r = maxOf (row x r) := by
  have h := maxOf_spec (row x r)
  obtain ⟨k, -, hk, e⟩ := h.attained
  rw [top, max_eq_right bot_le]
  refine le_antisymm ((Finset.fold_max_le _).mpr ⟨bot_le, fun j _ => ?_⟩) ((Finset.le_fold_max _).mpr (Or.inr ⟨⟨k, hk⟩, Finset.mem_univ _, ?_⟩))
  · have := h.le j.val (Nat.zero_le _) j.isLt
    rwa [row, dif_pos j.isLt] at this
  · rw [← e, row, dif_pos hk]

/-- The sum a row is divided by is the sum of its exponentials below its maximum. -/
theorem weight_eq (x : FVec Ideal S128x100000 .f32) (r : Fin 128) : weight x r = expSum (row x r) 0 100000 (maxOf (row x r)) := by
  rw [weight, expSum, top_eq]
  refine Eq.trans ?_ (sum_block (fun j => Ideal.exp (row x r j - maxOf (row x r))) 0 100000)
  refine Finset.sum_congr rfl fun k _ => ?_
  simp only [Nat.zero_add, row, dif_pos k.isLt]

/-- The log-softmax at a place is the log-probability of it. -/
theorem logSoftmax_eq (x : FVec Ideal S128x100000 .f32) (r : Fin 128) (k : Fin 100000) :
    logSoftmax x (ix2 r k) = logProb (row x r) k.val := by
  rw [logSoftmax_at, weight_eq, top_eq, logProb]
  simp only [row, dif_pos k.isLt]

/-- The softmax at a place is its share. -/
theorem softmax_eq (x : FVec Ideal S128x100000 .f32) (r : Fin 128) (k : Fin 100000) :
    softmax x (ix2 r k) = share (row x r) 100000 (maxOf (row x r)) k.val := by
  rw [softmax_at, weight_eq, top_eq, share]
  simp only [row, dif_pos k.isLt]

variable {W : Valuation τ sig (Elt Ideal)} {d : Dev nD}

/-- The first result: the log-probability of the action. -/
theorem logProbs (h : Holds W (main (F := Ideal) d)) (r : Fin 128) (k : Fin 100000)
    (ha : W (Proc.devRef .tc main_arg1) (ix2 r 0) = BitVec.ofNat 32 k.val) :
    W (Proc.devRef .tc main_v3) (ix2 r 0) = logProb (row (W (Proc.devRef .tc main_arg0)) r) k.val := by
  obtain ⟨c0, c1, -, -, -, e3, -⟩ := lines h
  have h0 : W (Proc.devRef .tc main_v0) = logSoftmax (W (Proc.devRef .tc main_arg0)) := logSoftmax_call c0
  have h1 : W (Proc.devRef .tc main_v1) (ix2 r 0) = W (Proc.devRef .tc main_v0) (ix2 r k) := Take.take_call c1 r k ha
  rw [e3, column_at, summed_at, h1, h0, logSoftmax_eq]

/-- The second result: the first place of the greatest logit. -/
theorem modes (h : Holds W (main (F := Ideal) d)) (r : Fin 128) (hf : ∀ j, row (W (Proc.devRef .tc main_arg0)) r j < ⊤) :
    W (Proc.devRef .tc main_v16) (ix2 r 0) = firstAt (row (W (Proc.devRef .tc main_arg0)) r) := by
  obtain ⟨-, -, c2, -, -, -, e14, e16, -⟩ := lines h
  have hM := maxOf_spec (row (W (Proc.devRef .tc main_arg0)) r)
  have ht : maxOf (row (W (Proc.devRef .tc main_arg0)) r) < ⊤ := by
    obtain ⟨k, -, -, e⟩ := hM.attained
    exact e ▸ hf k
  obtain ⟨N, hN⟩ := hM.softmax ht
  obtain ⟨M, h2⟩ := argmax_call c2 r (share (row (W (Proc.devRef .tc main_arg0)) r) 100000 (maxOf (row (W (Proc.devRef .tc main_arg0)) r)))
    fun k => ((congrFun e14 (ix2 r k)).trans (softmax_eq _ r k)).symm
  rw [e16, column_at]
  exact (h2.unique hN).2

/-- The perturbed logits. -/
theorem noisy_eq (h : Holds W (main (F := Ideal) d)) (r : Fin 128) (k : Fin 100000) :
    W (Proc.devRef .tc main_v58) (ix2 r k) = prow (W (Proc.devRef .tc main_arg0)) r k.val := by
  obtain ⟨-, -, -, c3, -, -, -, -, e25, e27, e37, e38, e58, -⟩ := lines h
  have hp := place_at r k
  obtain ⟨hu, hv⟩ := threefry_at c3 (fun i => (congrFun e25 i).trans (key0 i)) (fun i => (congrFun e27 i).trans (key1 i)) (ix2 r k)
    (BitVec.ofNat 32 (100000 * r.val + k.val))
    ((congrFun e38 (ix2 r k)).trans (upper_at _ _ (by rw [hp, BitVec.toNat_ofNat]; exact (Nat.mod_le _ _).trans_lt (by omega))))
    ((congrFun e37 (ix2 r k)).trans (lower_at _ _ _ hp))
  have hw : bitsOf (W (Proc.devRef .tc main_v39_0)) (W (Proc.devRef .tc main_v39_1)) (ix2 r k)
      = Ideal.ofBits .f32 (word (BitVec.ofNat 32 (100000 * r.val + k.val)) >>> 9#32 ||| 0x3F800000#32) := by
    rw [bitsOf_at, word]
    exact congrArg₂ (fun a b : BitVec 32 => Ideal.ofBits .f32 ((a ^^^ b) >>> 9#32 ||| 0x3F800000#32)) hu hv
  rw [e58, noisy_at, uniform_at, hw, prow, if_pos k.isLt, row, dif_pos k.isLt, add_comm]
  rfl

/-- The third result: the first place of the greatest perturbed logit. -/
theorem samples (h : Holds W (main (F := Ideal) d)) (r : Fin 128) :
    W (Proc.devRef .tc main_v60) (ix2 r 0) = firstAt (prow (W (Proc.devRef .tc main_arg0)) r) := by
  have hn := noisy_eq h r
  obtain ⟨-, -, -, -, c4, -, -, -, -, -, -, -, -, e60⟩ := lines h
  obtain ⟨M, h4⟩ := argmax_call c4 r (prow (W (Proc.devRef .tc main_arg0)) r) fun k => (hn k).symm
  rw [e60, column_at]
  exact firstAt_eq h4

end Cert.ReferenceIdeal.Result

end
-- ==== Proof.Ordinary.lean ====
/-
  What the precondition gives: every logit is below `+∞` and every action is a column.
-/
module

public import proofs.«01_k».proof.Pre_ordinary_args
public import proofs.«01_k».proof.Proof.Rows
public import Idealize.ShloMosaic.Lib.ReduceAll

@[expose] public section

noncomputable section

namespace Cert.Pre_ordinary_args

open Idealize.ShloMosaic

/-- The side conditions of the precondition's operations. -/
theorem facts : Facts where
  bcast_S_S128x100000 := by decide
  reducesTo_S128x100000_S_d0_1 := by decide
  h_S_ := by decide
  bcast_S_S128x1 := by decide
  reducesTo_S128x1_S_d0_1 := by decide

variable [Facts] {lg : FVec Ideal S128x100000 .f32} {act : IVec S128x1 32}

/-- A scalar has one place. -/
instance : Subsingleton S_.Idx := ⟨fun a b => funext fun k => k.elim0⟩

/-- The word `0x7F800000` is `+∞`. -/
theorem ofBits_inf : Ideal.ofBits .f32 0x7F800000#32 = ⊤ := by
  simp [Ideal.ofBits, Ideal.ieee]

/-- Both of two bits are one if their conjunction is. -/
theorem and_one {a b : BitVec 1} (h : a &&& b = 1#1) : a = 1#1 ∧ b = 1#1 := by
  revert a b; decide

/-- The precondition, entry by entry. -/
theorem entries (h : fn (F := Ideal) lg act = fun _ => 1#1) :
    (∀ i, lg i < (⊤ : EReal)) ∧ ∀ i, (act i).toNat < 100000 := by
  have h0 := congrFun h (fun k => k.elim0)
  dsimp only [fn] at h0
  obtain ⟨h1, hc⟩ := and_one h0
  obtain ⟨ha, hb⟩ := and_one h1
  refine ⟨fun i => ?_, fun i => ?_⟩
  · have e := Host.reduce_andi_all _ _ _ _ _ ha i
    have d : BitVec.ofBool (decide (lg i < Ideal.ofBits .f32 0x7F800000#32)) = 1#1 := e
    rw [ofBits_inf] at d
    by_contra hn
    rw [decide_eq_false hn] at d
    exact absurd d (by decide)
  · have e1 : BitVec.ofBool ((0#32).sle (act i)) = 1#1 := Host.reduce_andi_all _ _ _ _ _ hb i
    have e2 : BitVec.ofBool ((act i).slt 100000#32) = 1#1 := Host.reduce_andi_all _ _ _ _ _ hc i
    generalize act i = a at e1 e2
    have f : ∀ b : Bool, BitVec.ofBool b = 1#1 → b = true := by decide
    replace e1 := f _ e1
    replace e2 := f _ e2
    rw [BitVec.sle, decide_eq_true_eq] at e1
    rw [BitVec.slt, decide_eq_true_eq] at e2
    have z : (0#32).toInt = 0 := by decide
    have v : (100000#32).toInt = 100000 := by decide
    rw [z] at e1
    rw [v] at e2
    have := BitVec.toInt_eq_toNat_cond a
    have := a.isLt
    split at * <;> omega

end Cert.Pre_ordinary_args

end
-- ==== Proof.Equation.lean ====
/-
  The kernel and the reference, read at exact arithmetic, give the same three results.
-/
module

public import proofs.«01_k».proof.Defs
public import proofs.«01_k».proof.Proof.Frames
public import proofs.«01_k».proof.Proof.KernelResult
public import proofs.«01_k».proof.Proof.RefResult
public import proofs.«01_k».proof.Proof.Ordinary
public import proofs.«01_k».proof.Proof.Gen.ReferenceIdeal

@[expose] public section

set_option maxRecDepth 65536

noncomputable section

namespace Cert.Proof

open Idealize.ShloMosaic Idealize.ShloMosaic.TcCoe Idealize.SL.Sem

/-- The row an entry of a column belongs to. -/
def rowOf (i : (⟨2, ![128, 1]⟩ : Shape).Idx) : Fin 128 := i 0

/-- An entry of a column is its row's. -/
theorem eq_rowOf (i : (⟨2, ![128, 1]⟩ : Shape).Idx) : i = ix2 (rowOf i) (0 : Fin 1) := by
  funext k
  fin_cases k
  · rfl
  · exact Subsingleton.elim (α := Fin 1) _ _

/-- Two columns are equal if they are row by row. -/
theorem column_ext {α : Type} {v w : (⟨2, ![128, 1]⟩ : Shape).Idx → α} (h : ∀ r : Fin 128, v (ix2 r (0 : Fin 1)) = w (ix2 r (0 : Fin 1))) : v = w :=
  funext fun i => by rw [eq_rowOf i]; exact h _

/-- The column of the actions' log-probabilities. -/
def logProbs (lg : FVec Ideal ⟨2, ![128, 100000]⟩ .f32) (act : IVec ⟨2, ![128, 1]⟩ 32) : FVec Ideal ⟨2, ![128, 1]⟩ .f32 :=
  fun i => logProb (row lg (rowOf i)) (act (ix2 (rowOf i) (0 : Fin 1))).toNat

/-- The column of the first places of the greatest logits. -/
def modes (lg : FVec Ideal ⟨2, ![128, 100000]⟩ .f32) : IVec ⟨2, ![128, 1]⟩ 32 := fun i => firstAt (row lg (rowOf i))

/-- The column of the first places of the greatest perturbed logits. -/
def samples (lg : FVec Ideal ⟨2, ![128, 100000]⟩ .f32) : IVec ⟨2, ![128, 1]⟩ 32 := fun i => firstAt (prow lg (rowOf i))

/-- Under the precondition a row stays below `+∞`. -/
theorem row_lt {lg : FVec Ideal ⟨2, ![128, 100000]⟩ .f32} (h : ∀ i, lg i < (⊤ : EReal)) (r : Fin 128) (j : ℕ) : row lg r j < ⊤ := by
  rw [row]
  split
  · exact h _
  · exact bot_lt_top

/-- The kernel and the reference give the same results, on ordinary arguments. -/
theorem same_results : algebraic_KernelIdeal_ReferenceIdeal_pre_ordinary_args (hKernelIdeal := Cert.KernelIdeal.Gen.facts)
    (hReferenceIdeal := Cert.ReferenceIdeal.Gen.facts) (hPre_ordinary_args := Cert.Pre_ordinary_args.facts) := by
  intro m g m' g' hpre hargs
  have hp := fun c => @Cert.Pre_ordinary_args.entries Cert.Pre_ordinary_args.facts _ _ (hpre c)
  refine ⟨fun c => logProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => modes (m ((c.tc : Thread Cert.KernelIdeal.nD Cert.KernelIdeal.τ).loc Cert.KernelIdeal.main_arg0)),
    fun c => samples (m ((c.tc : Thread Cert.KernelIdeal.nD Cert.KernelIdeal.τ).loc Cert.KernelIdeal.main_arg0)), ?_, ?_⟩
  · refine (θ_run Cert.KernelIdeal.defs _ _).mono (fun _ h c => ?_) (Cert.KernelIdeal.Block.run m g)
    obtain ⟨a0, a1, ⟨s0, h0, e0⟩, ⟨s1, h1, e1⟩, ⟨s2, h2, e2⟩⟩ := h.1 c
    exact ⟨e0.trans (column_ext fun r => Cert.KernelIdeal.Block.end_logp m c r h0 (row_lt (hp c).1 r) ((hp c).2 _)),
      e1.trans (column_ext fun r => Cert.KernelIdeal.Block.end_mode m c r h1),
      e2.trans (column_ext fun r => Cert.KernelIdeal.Block.end_sample m c r h2), a0, a1⟩
  · refine (θ_run Cert.ReferenceIdeal.defs _ _).mono (fun _ h c => ?_) (Cert.ReferenceIdeal.Run.run m' g')
    obtain ⟨W, hW, hm, hA⟩ := h.2 c
    have a0 := hA Cert.ReferenceIdeal.main_arg0 rfl (by decide)
    have a1 := hA Cert.ReferenceIdeal.main_arg1 rfl (by decide)
    have b0 := a0.trans (hargs c).1
    have b1 := a1.trans (hargs c).2
    refine ⟨(hm _).trans (column_ext fun r => ?_), (hm _).trans (column_ext fun r => ?_), (hm _).trans (column_ext fun r => ?_),
      (hm _).trans a0, (hm _).trans a1⟩
    · have hk := (hp c).2 (ix2 r (0 : Fin 1))
      refine (Cert.ReferenceIdeal.Result.logProbs hW r ⟨_, hk⟩ ((congrFun b1 (ix2 r (0 : Fin 1))).trans ?_)).trans ?_
      · rw [BitVec.ofNat_toNat, BitVec.setWidth_eq]
      · rw [b0]; rfl
    · refine (Cert.ReferenceIdeal.Result.modes hW r fun j => ?_).trans ?_
      · rw [b0]; exact row_lt (hp c).1 r j
      · rw [b0]; rfl
    · refine (Cert.ReferenceIdeal.Result.samples hW r).trans ?_
      rw [b0]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_ordinary_args.facts,
  fun m g _ => frame_kernel m g, fun m g _ => frame_ideal m g, fun m g _ => frame_ideal m g, fun m g _ => frame_ref m g,
  fun m g _ => frame_ref m g, trivial, same_results⟩

end Cert.Proof

end
